-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "neg" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v276)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v276) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v305) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1620x48x48 : Shape := ⟨4, ![2, 1620, 48, 48]⟩
abbrev S2x1620x24x24 : Shape := ⟨4, ![2, 1620, 24, 24]⟩
abbrev S2x1620x12x12 : Shape := ⟨4, ![2, 1620, 12, 12]⟩
abbrev S2x1620x6x6 : Shape := ⟨4, ![2, 1620, 6, 6]⟩
abbrev S2x1620x3x3 : Shape := ⟨4, ![2, 1620, 3, 3]⟩
abbrev S2x324x48x48 : Shape := ⟨4, ![2, 324, 48, 48]⟩
abbrev S2x324x24x24 : Shape := ⟨4, ![2, 324, 24, 24]⟩
abbrev S2x324x12x12 : Shape := ⟨4, ![2, 324, 12, 12]⟩
abbrev S2x324x6x6 : Shape := ⟨4, ![2, 324, 6, 6]⟩
abbrev S2x324x3x3 : Shape := ⟨4, ![2, 324, 3, 3]⟩
abbrev S27621x4 : Shape := ⟨2, ![27621, 4]⟩
abbrev S2 : Shape := ⟨1, ![2]⟩
abbrev S2x48x48x1620 : Shape := ⟨4, ![2, 48, 48, 1620]⟩
abbrev S2x48x48x540 : Shape := ⟨4, ![2, 48, 48, 540]⟩
abbrev S2x48x48x180x3 : Shape := ⟨5, ![2, 48, 48, 180, 3]⟩
abbrev S_ : Shape := ⟨0, ![]⟩
abbrev S2x48x48x180 : Shape := ⟨4, ![2, 48, 48, 180]⟩
abbrev S2x48x48x180x1 : Shape := ⟨5, ![2, 48, 48, 180, 1]⟩
abbrev S2x20736x20 : Shape := ⟨3, ![2, 20736, 20]⟩
abbrev S2x24x24x1620 : Shape := ⟨4, ![2, 24, 24, 1620]⟩
abbrev S2x24x24x540 : Shape := ⟨4, ![2, 24, 24, 540]⟩
abbrev S2x24x24x180x3 : Shape := ⟨5, ![2, 24, 24, 180, 3]⟩
abbrev S2x24x24x180 : Shape := ⟨4, ![2, 24, 24, 180]⟩
abbrev S2x24x24x180x1 : Shape := ⟨5, ![2, 24, 24, 180, 1]⟩
abbrev S2x5184x20 : Shape := ⟨3, ![2, 5184, 20]⟩
abbrev S2x12x12x1620 : Shape := ⟨4, ![2, 12, 12, 1620]⟩
abbrev S2x12x12x540 : Shape := ⟨4, ![2, 12, 12, 540]⟩
abbrev S2x12x12x180x3 : Shape := ⟨5, ![2, 12, 12, 180, 3]⟩
abbrev S2x12x12x180 : Shape := ⟨4, ![2, 12, 12, 180]⟩
abbrev S2x12x12x180x1 : Shape := ⟨5, ![2, 12, 12, 180, 1]⟩
abbrev S2x1296x20 : Shape := ⟨3, ![2, 1296, 20]⟩
abbrev S2x6x6x1620 : Shape := ⟨4, ![2, 6, 6, 1620]⟩
abbrev S2x6x6x540 : Shape := ⟨4, ![2, 6, 6, 540]⟩
abbrev S2x6x6x180x3 : Shape := ⟨5, ![2, 6, 6, 180, 3]⟩
abbrev S2x6x6x180 : Shape := ⟨4, ![2, 6, 6, 180]⟩
abbrev S2x6x6x180x1 : Shape := ⟨5, ![2, 6, 6, 180, 1]⟩
abbrev S2x324x20 : Shape := ⟨3, ![2, 324, 20]⟩
abbrev S2x3x3x1620 : Shape := ⟨4, ![2, 3, 3, 1620]⟩
abbrev S2x3x3x540 : Shape := ⟨4, ![2, 3, 3, 540]⟩
abbrev S2x3x3x180x3 : Shape := ⟨5, ![2, 3, 3, 180, 3]⟩
abbrev S2x3x3x180 : Shape := ⟨4, ![2, 3, 3, 180]⟩
abbrev S2x3x3x180x1 : Shape := ⟨5, ![2, 3, 3, 180, 1]⟩
abbrev S2x81x20 : Shape := ⟨3, ![2, 81, 20]⟩
abbrev S2x27621x20 : Shape := ⟨3, ![2, 27621, 20]⟩
abbrev S2x48x48x324 : Shape := ⟨4, ![2, 48, 48, 324]⟩
abbrev S2x48x48x108 : Shape := ⟨4, ![2, 48, 48, 108]⟩
abbrev S2x48x48x36x3 : Shape := ⟨5, ![2, 48, 48, 36, 3]⟩
abbrev S2x48x48x36 : Shape := ⟨4, ![2, 48, 48, 36]⟩
abbrev S2x48x48x36x1 : Shape := ⟨5, ![2, 48, 48, 36, 1]⟩
abbrev S2x20736x4 : Shape := ⟨3, ![2, 20736, 4]⟩
abbrev S2x24x24x324 : Shape := ⟨4, ![2, 24, 24, 324]⟩
abbrev S2x24x24x108 : Shape := ⟨4, ![2, 24, 24, 108]⟩
abbrev S2x24x24x36x3 : Shape := ⟨5, ![2, 24, 24, 36, 3]⟩
abbrev S2x24x24x36 : Shape := ⟨4, ![2, 24, 24, 36]⟩
abbrev S2x24x24x36x1 : Shape := ⟨5, ![2, 24, 24, 36, 1]⟩
abbrev S2x5184x4 : Shape := ⟨3, ![2, 5184, 4]⟩
abbrev S2x12x12x324 : Shape := ⟨4, ![2, 12, 12, 324]⟩
abbrev S2x12x12x108 : Shape := ⟨4, ![2, 12, 12, 108]⟩
abbrev S2x12x12x36x3 : Shape := ⟨5, ![2, 12, 12, 36, 3]⟩
abbrev S2x12x12x36 : Shape := ⟨4, ![2, 12, 12, 36]⟩
abbrev S2x12x12x36x1 : Shape := ⟨5, ![2, 12, 12, 36, 1]⟩
abbrev S2x1296x4 : Shape := ⟨3, ![2, 1296, 4]⟩
abbrev S2x6x6x324 : Shape := ⟨4, ![2, 6, 6, 324]⟩
abbrev S2x6x6x108 : Shape := ⟨4, ![2, 6, 6, 108]⟩
abbrev S2x6x6x36x3 : Shape := ⟨5, ![2, 6, 6, 36, 3]⟩
abbrev S2x6x6x36 : Shape := ⟨4, ![2, 6, 6, 36]⟩
abbrev S2x6x6x36x1 : Shape := ⟨5, ![2, 6, 6, 36, 1]⟩
abbrev S2x324x4 : Shape := ⟨3, ![2, 324, 4]⟩
abbrev S2x3x3x324 : Shape := ⟨4, ![2, 3, 3, 324]⟩
abbrev S2x3x3x108 : Shape := ⟨4, ![2, 3, 3, 108]⟩
abbrev S2x3x3x36x3 : Shape := ⟨5, ![2, 3, 3, 36, 3]⟩
abbrev S2x3x3x36 : Shape := ⟨4, ![2, 3, 3, 36]⟩
abbrev S2x3x3x36x1 : Shape := ⟨5, ![2, 3, 3, 36, 1]⟩
abbrev S2x81x4 : Shape := ⟨3, ![2, 81, 4]⟩
abbrev S2x27621x4 : Shape := ⟨3, ![2, 27621, 4]⟩
abbrev S2x552420 : Shape := ⟨2, ![2, 552420]⟩
abbrev S2x5000 : Shape := ⟨2, ![2, 5000]⟩
abbrev S2x5000x1 : Shape := ⟨3, ![2, 5000, 1]⟩
abbrev S1 : Shape := ⟨1, ![1]⟩
abbrev S1x1x1 : Shape := ⟨3, ![1, 1, 1]⟩
abbrev S2x5000x4 : Shape := ⟨3, ![2, 5000, 4]⟩
abbrev S2x5120 : Shape := ⟨2, ![2, 5120]⟩
abbrev S2x40x128 : Shape := ⟨3, ![2, 40, 128]⟩
abbrev S2x1x40x128 : Shape := ⟨4, ![2, 1, 40, 128]⟩
abbrev S2x10x40x128 : Shape := ⟨4, ![2, 10, 40, 128]⟩
abbrev S2x1x1x1 : Shape := ⟨4, ![2, 1, 1, 1]⟩
abbrev S2x11x40x128 : Shape := ⟨4, ![2, 11, 40, 128]⟩
abbrev S2x100x128 : Shape := ⟨3, ![2, 100, 128]⟩
abbrev S1x11x40x128 : Shape := ⟨4, ![1, 11, 40, 128]⟩
abbrev S1x100x128 : Shape := ⟨3, ![1, 100, 128]⟩
abbrev S11x40x128 : Shape := ⟨3, ![11, 40, 128]⟩
abbrev S1x1x40x128 : Shape := ⟨4, ![1, 1, 40, 128]⟩
abbrev S40x128 : Shape := ⟨2, ![40, 128]⟩
abbrev S1x1x1x1 : Shape := ⟨4, ![1, 1, 1, 1]⟩
abbrev S1x40x128 : Shape := ⟨3, ![1, 40, 128]⟩
abbrev S1x128 : Shape := ⟨2, ![1, 128]⟩
abbrev S1x1x128 : Shape := ⟨3, ![1, 1, 128]⟩
abbrev S2x100x6 : Shape := ⟨3, ![2, 100, 6]⟩

abbrev nBuf : Space → Nat
  | .hbm => 412
  | .vmem => 5
  | .smem => 0
  | _ => 0

abbrev hbmTy0_0 (i : Nat) : BufTy := match i % 128 with
  | 0 => ⟨S2x1620x48x48, .f32⟩
  | 1 => ⟨S2x1620x24x24, .f32⟩
  | 2 => ⟨S2x1620x12x12, .f32⟩
  | 3 => ⟨S2x1620x6x6, .f32⟩
  | 4 => ⟨S2x1620x3x3, .f32⟩
  | 5 => ⟨S2x324x48x48, .f32⟩
  | 6 => ⟨S2x324x24x24, .f32⟩
  | 7 => ⟨S2x324x12x12, .f32⟩
  | 8 => ⟨S2x324x6x6, .f32⟩
  | 9 => ⟨S2x324x3x3, .f32⟩
  | 10 => ⟨S27621x4, .f32⟩
  | 11 => ⟨S2, .f32⟩
  | 12 => ⟨S2x48x48x1620, .f32⟩
  | 13 => ⟨S2x48x48x540, .f32⟩
  | 14 => ⟨S2x48x48x540, .f32⟩
  | 15 => ⟨S2x48x48x540, .f32⟩
  | 16 => ⟨S2x48x48x180x3, .f32⟩
  | 17 => ⟨S_, .f32⟩
  | 18 => ⟨S2x48x48x180, .f32⟩
  | 19 => ⟨S_, .f32⟩
  | 20 => ⟨S2x48x48x180, .f32⟩
  | 21 => ⟨S2x48x48x180, .f32⟩
  | 22 => ⟨S2x48x48x180x1, .f32⟩
  | 23 => ⟨S2x48x48x180x3, .f32⟩
  | 24 => ⟨S2x48x48x180x3, .f32⟩
  | 25 => ⟨S2x48x48x180x3, .f32⟩
  | 26 => ⟨S_, .f32⟩
  | 27 => ⟨S2x48x48x180, .f32⟩
  | 28 => ⟨S2x48x48x180x1, .f32⟩
  | 29 => ⟨S2x48x48x180x3, .f32⟩
  | 30 => ⟨S2x48x48x180x3, .f32⟩
  | 31 => ⟨S2x48x48x540, .f32⟩
  | 32 => ⟨S2x48x48x540, .f32⟩
  | 33 => ⟨S2x48x48x180x3, .f32⟩
  | 34 => ⟨S_, .f32⟩
  | 35 => ⟨S2x48x48x180, .f32⟩
  | 36 => ⟨S2x20736x20, .f32⟩
  | 37 => ⟨S2x24x24x1620, .f32⟩
  | 38 => ⟨S2x24x24x540, .f32⟩
  | 39 => ⟨S2x24x24x540, .f32⟩
  | 40 => ⟨S2x24x24x540, .f32⟩
  | 41 => ⟨S2x24x24x180x3, .f32⟩
  | 42 => ⟨S_, .f32⟩
  | 43 => ⟨S2x24x24x180, .f32⟩
  | 44 => ⟨S_, .f32⟩
  | 45 => ⟨S2x24x24x180, .f32⟩
  | 46 => ⟨S2x24x24x180, .f32⟩
  | 47 => ⟨S2x24x24x180x1, .f32⟩
  | 48 => ⟨S2x24x24x180x3, .f32⟩
  | 49 => ⟨S2x24x24x180x3, .f32⟩
  | 50 => ⟨S2x24x24x180x3, .f32⟩
  | 51 => ⟨S_, .f32⟩
  | 52 => ⟨S2x24x24x180, .f32⟩
  | 53 => ⟨S2x24x24x180x1, .f32⟩
  | 54 => ⟨S2x24x24x180x3, .f32⟩
  | 55 => ⟨S2x24x24x180x3, .f32⟩
  | 56 => ⟨S2x24x24x540, .f32⟩
  | 57 => ⟨S2x24x24x540, .f32⟩
  | 58 => ⟨S2x24x24x180x3, .f32⟩
  | 59 => ⟨S_, .f32⟩
  | 60 => ⟨S2x24x24x180, .f32⟩
  | 61 => ⟨S2x5184x20, .f32⟩
  | 62 => ⟨S2x12x12x1620, .f32⟩
  | 63 => ⟨S2x12x12x540, .f32⟩
  | 64 => ⟨S2x12x12x540, .f32⟩
  | 65 => ⟨S2x12x12x540, .f32⟩
  | 66 => ⟨S2x12x12x180x3, .f32⟩
  | 67 => ⟨S_, .f32⟩
  | 68 => ⟨S2x12x12x180, .f32⟩
  | 69 => ⟨S_, .f32⟩
  | 70 => ⟨S2x12x12x180, .f32⟩
  | 71 => ⟨S2x12x12x180, .f32⟩
  | 72 => ⟨S2x12x12x180x1, .f32⟩
  | 73 => ⟨S2x12x12x180x3, .f32⟩
  | 74 => ⟨S2x12x12x180x3, .f32⟩
  | 75 => ⟨S2x12x12x180x3, .f32⟩
  | 76 => ⟨S_, .f32⟩
  | 77 => ⟨S2x12x12x180, .f32⟩
  | 78 => ⟨S2x12x12x180x1, .f32⟩
  | 79 => ⟨S2x12x12x180x3, .f32⟩
  | 80 => ⟨S2x12x12x180x3, .f32⟩
  | 81 => ⟨S2x12x12x540, .f32⟩
  | 82 => ⟨S2x12x12x540, .f32⟩
  | 83 => ⟨S2x12x12x180x3, .f32⟩
  | 84 => ⟨S_, .f32⟩
  | 85 => ⟨S2x12x12x180, .f32⟩
  | 86 => ⟨S2x1296x20, .f32⟩
  | 87 => ⟨S2x6x6x1620, .f32⟩
  | 88 => ⟨S2x6x6x540, .f32⟩
  | 89 => ⟨S2x6x6x540, .f32⟩
  | 90 => ⟨S2x6x6x540, .f32⟩
  | 91 => ⟨S2x6x6x180x3, .f32⟩
  | 92 => ⟨S_, .f32⟩
  | 93 => ⟨S2x6x6x180, .f32⟩
  | 94 => ⟨S_, .f32⟩
  | 95 => ⟨S2x6x6x180, .f32⟩
  | 96 => ⟨S2x6x6x180, .f32⟩
  | 97 => ⟨S2x6x6x180x1, .f32⟩
  | 98 => ⟨S2x6x6x180x3, .f32⟩
  | 99 => ⟨S2x6x6x180x3, .f32⟩
  | 100 => ⟨S2x6x6x180x3, .f32⟩
  | 101 => ⟨S_, .f32⟩
  | 102 => ⟨S2x6x6x180, .f32⟩
  | 103 => ⟨S2x6x6x180x1, .f32⟩
  | 104 => ⟨S2x6x6x180x3, .f32⟩
  | 105 => ⟨S2x6x6x180x3, .f32⟩
  | 106 => ⟨S2x6x6x540, .f32⟩
  | 107 => ⟨S2x6x6x540, .f32⟩
  | 108 => ⟨S2x6x6x180x3, .f32⟩
  | 109 => ⟨S_, .f32⟩
  | 110 => ⟨S2x6x6x180, .f32⟩
  | 111 => ⟨S2x324x20, .f32⟩
  | 112 => ⟨S2x3x3x1620, .f32⟩
  | 113 => ⟨S2x3x3x540, .f32⟩
  | 114 => ⟨S2x3x3x540, .f32⟩
  | 115 => ⟨S2x3x3x540, .f32⟩
  | 116 => ⟨S2x3x3x180x3, .f32⟩
  | 117 => ⟨S_, .f32⟩
  | 118 => ⟨S2x3x3x180, .f32⟩
  | 119 => ⟨S_, .f32⟩
  | 120 => ⟨S2x3x3x180, .f32⟩
  | 121 => ⟨S2x3x3x180, .f32⟩
  | 122 => ⟨S2x3x3x180x1, .f32⟩
  | 123 => ⟨S2x3x3x180x3, .f32⟩
  | 124 => ⟨S2x3x3x180x3, .f32⟩
  | 125 => ⟨S2x3x3x180x3, .f32⟩
  | 126 => ⟨S_, .f32⟩
  | 127 => ⟨S2x3x3x180, .f32⟩
  | _ => ⟨S2x1620x48x48, .f32⟩

abbrev hbmTy0_1 (i : Nat) : BufTy := match i % 128 with
  | 0 => ⟨S2x3x3x180x1, .f32⟩
  | 1 => ⟨S2x3x3x180x3, .f32⟩
  | 2 => ⟨S2x3x3x180x3, .f32⟩
  | 3 => ⟨S2x3x3x540, .f32⟩
  | 4 => ⟨S2x3x3x540, .f32⟩
  | 5 => ⟨S2x3x3x180x3, .f32⟩
  | 6 => ⟨S_, .f32⟩
  | 7 => ⟨S2x3x3x180, .f32⟩
  | 8 => ⟨S2x81x20, .f32⟩
  | 9 => ⟨S2x27621x20, .f32⟩
  | 10 => ⟨S2x48x48x324, .f32⟩
  | 11 => ⟨S2x48x48x108, .f32⟩
  | 12 => ⟨S2x48x48x108, .f32⟩
  | 13 => ⟨S2x48x48x108, .f32⟩
  | 14 => ⟨S2x48x48x36x3, .f32⟩
  | 15 => ⟨S_, .f32⟩
  | 16 => ⟨S2x48x48x36, .f32⟩
  | 17 => ⟨S_, .f32⟩
  | 18 => ⟨S2x48x48x36, .f32⟩
  | 19 => ⟨S2x48x48x36, .f32⟩
  | 20 => ⟨S2x48x48x36x1, .f32⟩
  | 21 => ⟨S2x48x48x36x3, .f32⟩
  | 22 => ⟨S2x48x48x36x3, .f32⟩
  | 23 => ⟨S2x48x48x36x3, .f32⟩
  | 24 => ⟨S_, .f32⟩
  | 25 => ⟨S2x48x48x36, .f32⟩
  | 26 => ⟨S2x48x48x36x1, .f32⟩
  | 27 => ⟨S2x48x48x36x3, .f32⟩
  | 28 => ⟨S2x48x48x36x3, .f32⟩
  | 29 => ⟨S2x48x48x108, .f32⟩
  | 30 => ⟨S2x48x48x108, .f32⟩
  | 31 => ⟨S2x48x48x36x3, .f32⟩
  | 32 => ⟨S_, .f32⟩
  | 33 => ⟨S2x48x48x36, .f32⟩
  | 34 => ⟨S2x20736x4, .f32⟩
  | 35 => ⟨S2x24x24x324, .f32⟩
  | 36 => ⟨S2x24x24x108, .f32⟩
  | 37 => ⟨S2x24x24x108, .f32⟩
  | 38 => ⟨S2x24x24x108, .f32⟩
  | 39 => ⟨S2x24x24x36x3, .f32⟩
  | 40 => ⟨S_, .f32⟩
  | 41 => ⟨S2x24x24x36, .f32⟩
  | 42 => ⟨S_, .f32⟩
  | 43 => ⟨S2x24x24x36, .f32⟩
  | 44 => ⟨S2x24x24x36, .f32⟩
  | 45 => ⟨S2x24x24x36x1, .f32⟩
  | 46 => ⟨S2x24x24x36x3, .f32⟩
  | 47 => ⟨S2x24x24x36x3, .f32⟩
  | 48 => ⟨S2x24x24x36x3, .f32⟩
  | 49 => ⟨S_, .f32⟩
  | 50 => ⟨S2x24x24x36, .f32⟩
  | 51 => ⟨S2x24x24x36x1, .f32⟩
  | 52 => ⟨S2x24x24x36x3, .f32⟩
  | 53 => ⟨S2x24x24x36x3, .f32⟩
  | 54 => ⟨S2x24x24x108, .f32⟩
  | 55 => ⟨S2x24x24x108, .f32⟩
  | 56 => ⟨S2x24x24x36x3, .f32⟩
  | 57 => ⟨S_, .f32⟩
  | 58 => ⟨S2x24x24x36, .f32⟩
  | 59 => ⟨S2x5184x4, .f32⟩
  | 60 => ⟨S2x12x12x324, .f32⟩
  | 61 => ⟨S2x12x12x108, .f32⟩
  | 62 => ⟨S2x12x12x108, .f32⟩
  | 63 => ⟨S2x12x12x108, .f32⟩
  | 64 => ⟨S2x12x12x36x3, .f32⟩
  | 65 => ⟨S_, .f32⟩
  | 66 => ⟨S2x12x12x36, .f32⟩
  | 67 => ⟨S_, .f32⟩
  | 68 => ⟨S2x12x12x36, .f32⟩
  | 69 => ⟨S2x12x12x36, .f32⟩
  | 70 => ⟨S2x12x12x36x1, .f32⟩
  | 71 => ⟨S2x12x12x36x3, .f32⟩
  | 72 => ⟨S2x12x12x36x3, .f32⟩
  | 73 => ⟨S2x12x12x36x3, .f32⟩
  | 74 => ⟨S_, .f32⟩
  | 75 => ⟨S2x12x12x36, .f32⟩
  | 76 => ⟨S2x12x12x36x1, .f32⟩
  | 77 => ⟨S2x12x12x36x3, .f32⟩
  | 78 => ⟨S2x12x12x36x3, .f32⟩
  | 79 => ⟨S2x12x12x108, .f32⟩
  | 80 => ⟨S2x12x12x108, .f32⟩
  | 81 => ⟨S2x12x12x36x3, .f32⟩
  | 82 => ⟨S_, .f32⟩
  | 83 => ⟨S2x12x12x36, .f32⟩
  | 84 => ⟨S2x1296x4, .f32⟩
  | 85 => ⟨S2x6x6x324, .f32⟩
  | 86 => ⟨S2x6x6x108, .f32⟩
  | 87 => ⟨S2x6x6x108, .f32⟩
  | 88 => ⟨S2x6x6x108, .f32⟩
  | 89 => ⟨S2x6x6x36x3, .f32⟩
  | 90 => ⟨S_, .f32⟩
  | 91 => ⟨S2x6x6x36, .f32⟩
  | 92 => ⟨S_, .f32⟩
  | 93 => ⟨S2x6x6x36, .f32⟩
  | 94 => ⟨S2x6x6x36, .f32⟩
  | 95 => ⟨S2x6x6x36x1, .f32⟩
  | 96 => ⟨S2x6x6x36x3, .f32⟩
  | 97 => ⟨S2x6x6x36x3, .f32⟩
  | 98 => ⟨S2x6x6x36x3, .f32⟩
  | 99 => ⟨S_, .f32⟩
  | 100 => ⟨S2x6x6x36, .f32⟩
  | 101 => ⟨S2x6x6x36x1, .f32⟩
  | 102 => ⟨S2x6x6x36x3, .f32⟩
  | 103 => ⟨S2x6x6x36x3, .f32⟩
  | 104 => ⟨S2x6x6x108, .f32⟩
  | 105 => ⟨S2x6x6x108, .f32⟩
  | 106 => ⟨S2x6x6x36x3, .f32⟩
  | 107 => ⟨S_, .f32⟩
  | 108 => ⟨S2x6x6x36, .f32⟩
  | 109 => ⟨S2x324x4, .f32⟩
  | 110 => ⟨S2x3x3x324, .f32⟩
  | 111 => ⟨S2x3x3x108, .f32⟩
  | 112 => ⟨S2x3x3x108, .f32⟩
  | 113 => ⟨S2x3x3x108, .f32⟩
  | 114 => ⟨S2x3x3x36x3, .f32⟩
  | 115 => ⟨S_, .f32⟩
  | 116 => ⟨S2x3x3x36, .f32⟩
  | 117 => ⟨S_, .f32⟩
  | 118 => ⟨S2x3x3x36, .f32⟩
  | 119 => ⟨S2x3x3x36, .f32⟩
  | 120 => ⟨S2x3x3x36x1, .f32⟩
  | 121 => ⟨S2x3x3x36x3, .f32⟩
  | 122 => ⟨S2x3x3x36x3, .f32⟩
  | 123 => ⟨S2x3x3x36x3, .f32⟩
  | 124 => ⟨S_, .f32⟩
  | 125 => ⟨S2x3x3x36, .f32⟩
  | 126 => ⟨S2x3x3x36x1, .f32⟩
  | 127 => ⟨S2x3x3x36x3, .f32⟩
  | _ => ⟨S2x1620x48x48, .f32⟩

abbrev hbmTy0_2 (i : Nat) : BufTy := match i % 128 with
  | 0 => ⟨S2x3x3x36x3, .f32⟩
  | 1 => ⟨S2x3x3x108, .f32⟩
  | 2 => ⟨S2x3x3x108, .f32⟩
  | 3 => ⟨S2x3x3x36x3, .f32⟩
  | 4 => ⟨S_, .f32⟩
  | 5 => ⟨S2x3x3x36, .f32⟩
  | 6 => ⟨S2x81x4, .f32⟩
  | 7 => ⟨S2x27621x4, .f32⟩
  | 8 => ⟨S2x552420, .f32⟩
  | 9 => ⟨S2x5000, .f32⟩
  | 10 => ⟨S2x5000, .i32⟩
  | 11 => ⟨S_, .i32⟩
  | 12 => ⟨S_, .i32⟩
  | 13 => ⟨S2x5000, .i32⟩
  | 14 => ⟨S2x5000, .i32⟩
  | 15 => ⟨S2x5000, .i32⟩
  | 16 => ⟨S_, .i32⟩
  | 17 => ⟨S2x5000, .i32⟩
  | 18 => ⟨S2x5000, .i1⟩
  | 19 => ⟨S2x5000, .i32⟩
  | 20 => ⟨S2x5000, .i32⟩
  | 21 => ⟨S_, .i32⟩
  | 22 => ⟨S2x5000, .i32⟩
  | 23 => ⟨S2x5000, .i1⟩
  | 24 => ⟨S2x5000, .i1⟩
  | 25 => ⟨S_, .i32⟩
  | 26 => ⟨S2x5000, .i32⟩
  | 27 => ⟨S2x5000, .i32⟩
  | 28 => ⟨S2x5000, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S2x5000, .i32⟩
  | 36 => ⟨S2x5000, .i32⟩
  | 37 => ⟨S_, .i32⟩
  | 38 => ⟨S2x5000, .i32⟩
  | 39 => ⟨S2x5000, .i1⟩
  | 40 => ⟨S_, .i32⟩
  | 41 => ⟨S2x5000, .i32⟩
  | 42 => ⟨S2x5000, .i1⟩
  | 43 => ⟨S_, .i32⟩
  | 44 => ⟨S_, .i1⟩
  | 45 => ⟨S2x5000, .i1⟩
  | 46 => ⟨S2x5000, .i1⟩
  | 47 => ⟨S2x5000, .i1⟩
  | 48 => ⟨S2x5000, .i32⟩
  | 49 => ⟨S2x5000, .i32⟩
  | 50 => ⟨S2x5000, .i32⟩
  | 51 => ⟨S2x5000x1, .i32⟩
  | 52 => ⟨S_, .i32⟩
  | 53 => ⟨S2x5000x1, .i32⟩
  | 54 => ⟨S2x5000x1, .i1⟩
  | 55 => ⟨S_, .i32⟩
  | 56 => ⟨S2x5000x1, .i32⟩
  | 57 => ⟨S2x5000x1, .i32⟩
  | 58 => ⟨S2x5000x1, .i32⟩
  | 59 => ⟨S1, .i32⟩
  | 60 => ⟨S_, .i32⟩
  | 61 => ⟨S2x5000x1, .i32⟩
  | 62 => ⟨S2x5000x1, .i1⟩
  | 63 => ⟨S1x1x1, .i32⟩
  | 64 => ⟨S2x5000x1, .i32⟩
  | 65 => ⟨S2x5000x1, .i1⟩
  | 66 => ⟨S2x5000x1, .i1⟩
  | 67 => ⟨S_, .i1⟩
  | 68 => ⟨S2x5000, .i1⟩
  | 69 => ⟨S2x5000x4, .f32⟩
  | 70 => ⟨S2x5000x4, .i1⟩
  | 71 => ⟨S_, .f32⟩
  | 72 => ⟨S2x5000x4, .f32⟩
  | 73 => ⟨S2x5000x4, .f32⟩
  | 74 => ⟨S_, .i32⟩
  | 75 => ⟨S2x5000, .i32⟩
  | 76 => ⟨S2x5000, .i1⟩
  | 77 => ⟨S_, .i32⟩
  | 78 => ⟨S2x5000, .i32⟩
  | 79 => ⟨S2x5000, .i32⟩
  | 80 => ⟨S2x5000, .i32⟩
  | 81 => ⟨S2x5000x1, .i32⟩
  | 82 => ⟨S2x5000x4, .f32⟩
  | 83 => ⟨S2x5000x1, .f32⟩
  | 84 => ⟨S2x5000, .f32⟩
  | 85 => ⟨S2x5000x1, .f32⟩
  | 86 => ⟨S2x5000, .f32⟩
  | 87 => ⟨S2x5000x1, .f32⟩
  | 88 => ⟨S2x5000, .f32⟩
  | 89 => ⟨S2x5000x1, .f32⟩
  | 90 => ⟨S2x5000, .f32⟩
  | 91 => ⟨S2x5000x1, .f32⟩
  | 92 => ⟨S2x5000, .f32⟩
  | 93 => ⟨S2x5000x1, .f32⟩
  | 94 => ⟨S2x5000, .f32⟩
  | 95 => ⟨S2x5000x1, .f32⟩
  | 96 => ⟨S2x5000, .f32⟩
  | 97 => ⟨S2x5000x1, .f32⟩
  | 98 => ⟨S2x5000, .f32⟩
  | 99 => ⟨S2x5000, .f32⟩
  | 100 => ⟨S_, .i32⟩
  | 101 => ⟨S_, .f32⟩
  | 102 => ⟨S2x5120, .f32⟩
  | 103 => ⟨S2x40x128, .f32⟩
  | 104 => ⟨S_, .i32⟩
  | 105 => ⟨S_, .f32⟩
  | 106 => ⟨S2x5120, .f32⟩
  | 107 => ⟨S2x40x128, .f32⟩
  | 108 => ⟨S_, .i32⟩
  | 109 => ⟨S_, .f32⟩
  | 110 => ⟨S2x5120, .f32⟩
  | 111 => ⟨S2x40x128, .f32⟩
  | 112 => ⟨S_, .i32⟩
  | 113 => ⟨S_, .f32⟩
  | 114 => ⟨S2x5120, .f32⟩
  | 115 => ⟨S2x40x128, .f32⟩
  | 116 => ⟨S_, .i32⟩
  | 117 => ⟨S_, .f32⟩
  | 118 => ⟨S2x5120, .f32⟩
  | 119 => ⟨S2x40x128, .f32⟩
  | 120 => ⟨S_, .i32⟩
  | 121 => ⟨S_, .f32⟩
  | 122 => ⟨S2x5120, .f32⟩
  | 123 => ⟨S2x40x128, .f32⟩
  | 124 => ⟨S_, .i32⟩
  | 125 => ⟨S_, .f32⟩
  | 126 => ⟨S2x5120, .f32⟩
  | 127 => ⟨S2x40x128, .f32⟩
  | _ => ⟨S2x1620x48x48, .f32⟩

abbrev hbmTy0_3 (i : Nat) : BufTy := match i % 128 with
  | 0 => ⟨S_, .i32⟩
  | 1 => ⟨S_, .f32⟩
  | 2 => ⟨S2x5120, .f32⟩
  | 3 => ⟨S2x40x128, .f32⟩
  | 4 => ⟨S_, .i32⟩
  | 5 => ⟨S_, .f32⟩
  | 6 => ⟨S2x5120, .f32⟩
  | 7 => ⟨S2x40x128, .f32⟩
  | 8 => ⟨S_, .i32⟩
  | 9 => ⟨S_, .f32⟩
  | 10 => ⟨S2x5120, .f32⟩
  | 11 => ⟨S2x40x128, .f32⟩
  | 12 => ⟨S2x1x40x128, .f32⟩
  | 13 => ⟨S2x1x40x128, .f32⟩
  | 14 => ⟨S2x1x40x128, .f32⟩
  | 15 => ⟨S2x1x40x128, .f32⟩
  | 16 => ⟨S2x1x40x128, .f32⟩
  | 17 => ⟨S2x1x40x128, .f32⟩
  | 18 => ⟨S2x1x40x128, .f32⟩
  | 19 => ⟨S2x1x40x128, .f32⟩
  | 20 => ⟨S2x1x40x128, .f32⟩
  | 21 => ⟨S2x1x40x128, .f32⟩
  | 22 => ⟨S2x10x40x128, .f32⟩
  | 23 => ⟨S2x1x1x1, .f32⟩
  | 24 => ⟨S2x1x40x128, .f32⟩
  | 25 => ⟨S2x11x40x128, .f32⟩
  | 26 => ⟨S2x100x128, .f32⟩
  | 27 => ⟨S2x100x6, .f32⟩
  | _ => ⟨S2x1620x48x48, .f32⟩

abbrev hbmTy (i : Nat) : BufTy := match i / 128 with
  | 0 => hbmTy0_0 i
  | 1 => hbmTy0_1 i
  | 2 => hbmTy0_2 i
  | 3 => hbmTy0_3 i
  | _ => ⟨S2x1620x48x48, .f32⟩

abbrev bufTy : (tb : Table) → Fin (tcTables nBuf tb) → BufTy
  | .hbm, ⟨i, _⟩ => hbmTy i
  | .local _ .vmem, ⟨0, _⟩ => ⟨S1x11x40x128, .f32⟩
  | .local _ .vmem, ⟨1, _⟩ => ⟨S1x11x40x128, .f32⟩
  | .local _ .vmem, ⟨2, _⟩ => ⟨S1x100x128, .f32⟩
  | .local _ .vmem, ⟨3, _⟩ => ⟨S1x100x128, .f32⟩
  | .local _ .vmem, ⟨4, _⟩ => ⟨S11x40x128, .f32⟩
  | _, _ => ⟨S2x1620x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_14 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_15 : Ref sig .tc := ⟨.hbm, 117, rfl⟩
abbrev main_v89 : Ref sig .tc := ⟨.hbm, 118, rfl⟩
abbrev main_cst_16 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_17 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_18 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_19 : Ref sig .tc := ⟨.hbm, 143, rfl⟩
abbrev main_v111 : Ref sig .tc := ⟨.hbm, 144, rfl⟩
abbrev main_cst_20 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_21 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_22 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_23 : Ref sig .tc := ⟨.hbm, 168, rfl⟩
abbrev main_v132 : Ref sig .tc := ⟨.hbm, 169, rfl⟩
abbrev main_cst_24 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_25 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_26 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_27 : Ref sig .tc := ⟨.hbm, 193, rfl⟩
abbrev main_v153 : Ref sig .tc := ⟨.hbm, 194, rfl⟩
abbrev main_cst_28 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_29 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_cst_30 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_31 : Ref sig .tc := ⟨.hbm, 218, rfl⟩
abbrev main_v174 : Ref sig .tc := ⟨.hbm, 219, rfl⟩
abbrev main_cst_32 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_cst_33 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_cst_34 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_cst_35 : Ref sig .tc := ⟨.hbm, 243, rfl⟩
abbrev main_v195 : Ref sig .tc := ⟨.hbm, 244, rfl⟩
abbrev main_cst_36 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_cst_37 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_cst_38 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_values : Ref sig .tc := ⟨.hbm, 265, rfl⟩
abbrev main_indices : Ref sig .tc := ⟨.hbm, 266, rfl⟩
abbrev main_c : Ref sig .tc := ⟨.hbm, 267, rfl⟩
abbrev main_call0_v0 : Ref sig .tc := ⟨.hbm, 268, rfl⟩
abbrev main_call0_v1 : Ref sig .tc := ⟨.hbm, 269, rfl⟩
abbrev main_call0_v2 : Ref sig .tc := ⟨.hbm, 270, rfl⟩
abbrev main_call0_v3 : Ref sig .tc := ⟨.hbm, 271, rfl⟩
abbrev main_call0_v4 : Ref sig .tc := ⟨.hbm, 272, rfl⟩
abbrev main_call0_v5 : Ref sig .tc := ⟨.hbm, 273, rfl⟩
abbrev main_call0_v6 : Ref sig .tc := ⟨.hbm, 274, rfl⟩
abbrev main_call0_v7 : Ref sig .tc := ⟨.hbm, 275, rfl⟩
abbrev main_call0_v8 : Ref sig .tc := ⟨.hbm, 276, rfl⟩
abbrev main_call0_c : Ref sig .tc := ⟨.hbm, 277, rfl⟩
abbrev main_call0_v9 : Ref sig .tc := ⟨.hbm, 278, rfl⟩
abbrev main_call0_v10 : Ref sig .tc := ⟨.hbm, 279, rfl⟩
abbrev main_call0_v11 : Ref sig .tc := ⟨.hbm, 280, rfl⟩
abbrev main_call0_c_0 : Ref sig .tc := ⟨.hbm, 281, rfl⟩
abbrev main_call0_v12 : Ref sig .tc := ⟨.hbm, 282, rfl⟩
abbrev main_call0_v13 : Ref sig .tc := ⟨.hbm, 283, rfl⟩
abbrev main_v213 : Ref sig .tc := ⟨.hbm, 284, rfl⟩
abbrev main_c_39 : Ref sig .tc := ⟨.hbm, 285, rfl⟩
abbrev main_call1_v0 : Ref sig .tc := ⟨.hbm, 286, rfl⟩
abbrev main_call1_c : Ref sig .tc := ⟨.hbm, 287, rfl⟩
abbrev main_call1_v1 : Ref sig .tc := ⟨.hbm, 288, rfl⟩
abbrev main_call1_c_0 : Ref sig .tc := ⟨.hbm, 289, rfl⟩
abbrev main_call1_v2 : Ref sig .tc := ⟨.hbm, 290, rfl⟩
abbrev main_call1_v3 : Ref sig .tc := ⟨.hbm, 291, rfl⟩
abbrev main_call1_v4 : Ref sig .tc := ⟨.hbm, 292, rfl⟩
abbrev main_call1_c_1 : Ref sig .tc := ⟨.hbm, 293, rfl⟩
abbrev main_call1_v5 : Ref sig .tc := ⟨.hbm, 294, rfl⟩
abbrev main_call1_v6 : Ref sig .tc := ⟨.hbm, 295, rfl⟩
abbrev main_call1_c_2 : Ref sig .tc := ⟨.hbm, 296, rfl⟩
abbrev main_call1_v7 : Ref sig .tc := ⟨.hbm, 297, rfl⟩
abbrev main_call1_v8 : Ref sig .tc := ⟨.hbm, 298, rfl⟩
abbrev main_call1_c_3 : Ref sig .tc := ⟨.hbm, 299, rfl⟩
abbrev main_call1_v9 : Ref sig .tc := ⟨.hbm, 300, rfl⟩
abbrev main_call1_v10 : Ref sig .tc := ⟨.hbm, 301, rfl⟩
abbrev main_call1_v11 : Ref sig .tc := ⟨.hbm, 302, rfl⟩
abbrev main_call1_v12 : Ref sig .tc := ⟨.hbm, 303, rfl⟩
abbrev main_call1_v13 : Ref sig .tc := ⟨.hbm, 304, rfl⟩
abbrev main_call1_v14 : Ref sig .tc := ⟨.hbm, 305, rfl⟩
abbrev main_v214 : Ref sig .tc := ⟨.hbm, 306, rfl⟩
abbrev main_v215 : Ref sig .tc := ⟨.hbm, 307, rfl⟩
abbrev main_call2_c : Ref sig .tc := ⟨.hbm, 308, rfl⟩
abbrev main_call2_v0 : Ref sig .tc := ⟨.hbm, 309, rfl⟩
abbrev main_call2_v1 : Ref sig .tc := ⟨.hbm, 310, rfl⟩
abbrev main_call2_c_0 : Ref sig .tc := ⟨.hbm, 311, rfl⟩
abbrev main_call2_v2 : Ref sig .tc := ⟨.hbm, 312, rfl⟩
abbrev main_call2_v3 : Ref sig .tc := ⟨.hbm, 313, rfl⟩
abbrev main_call2_v4 : Ref sig .tc := ⟨.hbm, 314, rfl⟩
abbrev main_call2_c_1 : Ref sig .tc := ⟨.hbm, 315, rfl⟩
abbrev main_call2_c_2 : Ref sig .tc := ⟨.hbm, 316, rfl⟩
abbrev main_call2_v5 : Ref sig .tc := ⟨.hbm, 317, rfl⟩
abbrev main_call2_v6 : Ref sig .tc := ⟨.hbm, 318, rfl⟩
abbrev main_call2_v7 : Ref sig .tc := ⟨.hbm, 319, rfl⟩
abbrev main_call2_v8 : Ref sig .tc := ⟨.hbm, 320, rfl⟩
abbrev main_call2_v9 : Ref sig .tc := ⟨.hbm, 321, rfl⟩
abbrev main_call2_v10 : Ref sig .tc := ⟨.hbm, 322, rfl⟩
abbrev main_call2_c_3 : Ref sig .tc := ⟨.hbm, 323, rfl⟩
abbrev main_call2_v11 : Ref sig .tc := ⟨.hbm, 324, rfl⟩
abbrev main_call2_v12 : Ref sig .tc := ⟨.hbm, 325, rfl⟩
abbrev main_call2_v13 : Ref sig .tc := ⟨.hbm, 326, rfl⟩
abbrev main_call2_cst : Ref sig .tc := ⟨.hbm, 327, rfl⟩
abbrev main_call2_v14 : Ref sig .tc := ⟨.hbm, 328, rfl⟩
abbrev main_v216 : Ref sig .tc := ⟨.hbm, 329, rfl⟩
abbrev main_c_40 : Ref sig .tc := ⟨.hbm, 330, rfl⟩
abbrev main_v217 : Ref sig .tc := ⟨.hbm, 331, rfl⟩
abbrev main_v218 : Ref sig .tc := ⟨.hbm, 332, rfl⟩
abbrev main_c_41 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_v228 : Ref sig .tc := ⟨.hbm, 343, rfl⟩
abbrev main_v229 : Ref sig .tc := ⟨.hbm, 344, rfl⟩
abbrev main_v230 : Ref sig .tc := ⟨.hbm, 345, rfl⟩
abbrev main_v231 : Ref sig .tc := ⟨.hbm, 346, rfl⟩
abbrev main_v232 : Ref sig .tc := ⟨.hbm, 347, rfl⟩
abbrev main_v233 : Ref sig .tc := ⟨.hbm, 348, rfl⟩
abbrev main_v234 : Ref sig .tc := ⟨.hbm, 349, rfl⟩
abbrev main_v235 : Ref sig .tc := ⟨.hbm, 350, rfl⟩
abbrev main_v236 : Ref sig .tc := ⟨.hbm, 351, rfl⟩
abbrev main_v237 : Ref sig .tc := ⟨.hbm, 352, rfl⟩
abbrev main_v238 : Ref sig .tc := ⟨.hbm, 353, rfl⟩
abbrev main_v239 : Ref sig .tc := ⟨.hbm, 354, rfl⟩
abbrev main_v240 : Ref sig .tc := ⟨.hbm, 355, rfl⟩
abbrev main_c_42 : Ref sig .tc := ⟨.hbm, 356, rfl⟩
abbrev main_call3_v0 : Ref sig .tc := ⟨.hbm, 357, rfl⟩
abbrev main_v241 : Ref sig .tc := ⟨.hbm, 358, rfl⟩
abbrev main_v242 : Ref sig .tc := ⟨.hbm, 359, rfl⟩
abbrev main_c_43 : Ref sig .tc := ⟨.hbm, 360, rfl⟩
abbrev main_call4_v0 : Ref sig .tc := ⟨.hbm, 361, rfl⟩
abbrev main_v243 : Ref sig .tc := ⟨.hbm, 362, rfl⟩
abbrev main_v244 : Ref sig .tc := ⟨.hbm, 363, rfl⟩
abbrev main_c_44 : Ref sig .tc := ⟨.hbm, 364, rfl⟩
abbrev main_call5_v0 : Ref sig .tc := ⟨.hbm, 365, rfl⟩
abbrev main_v245 : Ref sig .tc := ⟨.hbm, 366, rfl⟩
abbrev main_v246 : Ref sig .tc := ⟨.hbm, 367, rfl⟩
abbrev main_c_45 : Ref sig .tc := ⟨.hbm, 368, rfl⟩
abbrev main_call6_v0 : Ref sig .tc := ⟨.hbm, 369, rfl⟩
abbrev main_v247 : Ref sig .tc := ⟨.hbm, 370, rfl⟩
abbrev main_v248 : Ref sig .tc := ⟨.hbm, 371, rfl⟩
abbrev main_c_46 : Ref sig .tc := ⟨.hbm, 372, rfl⟩
abbrev main_call7_v0 : Ref sig .tc := ⟨.hbm, 373, rfl⟩
abbrev main_v249 : Ref sig .tc := ⟨.hbm, 374, rfl⟩
abbrev main_v250 : Ref sig .tc := ⟨.hbm, 375, rfl⟩
abbrev main_c_47 : Ref sig .tc := ⟨.hbm, 376, rfl⟩
abbrev main_call8_v0 : Ref sig .tc := ⟨.hbm, 377, rfl⟩
abbrev main_v251 : Ref sig .tc := ⟨.hbm, 378, rfl⟩
abbrev main_v252 : Ref sig .tc := ⟨.hbm, 379, rfl⟩
abbrev main_c_48 : Ref sig .tc := ⟨.hbm, 380, rfl⟩
abbrev main_call9_v0 : Ref sig .tc := ⟨.hbm, 381, rfl⟩
abbrev main_v253 : Ref sig .tc := ⟨.hbm, 382, rfl⟩
abbrev main_v254 : Ref sig .tc := ⟨.hbm, 383, rfl⟩
abbrev main_c_49 : Ref sig .tc := ⟨.hbm, 384, rfl⟩
abbrev main_call10_v0 : Ref sig .tc := ⟨.hbm, 385, rfl⟩
abbrev main_v255 : Ref sig .tc := ⟨.hbm, 386, rfl⟩
abbrev main_v256 : Ref sig .tc := ⟨.hbm, 387, rfl⟩
abbrev main_c_50 : Ref sig .tc := ⟨.hbm, 388, rfl⟩
abbrev main_call11_v0 : Ref sig .tc := ⟨.hbm, 389, rfl⟩
abbrev main_v257 : Ref sig .tc := ⟨.hbm, 390, rfl⟩
abbrev main_v258 : Ref sig .tc := ⟨.hbm, 391, rfl⟩
abbrev main_c_51 : Ref sig .tc := ⟨.hbm, 392, rfl⟩
abbrev main_call12_v0 : Ref sig .tc := ⟨.hbm, 393, rfl⟩
abbrev main_v259 : Ref sig .tc := ⟨.hbm, 394, rfl⟩
abbrev main_v260 : Ref sig .tc := ⟨.hbm, 395, rfl⟩
abbrev main_v261 : Ref sig .tc := ⟨.hbm, 396, rfl⟩
abbrev main_v262 : Ref sig .tc := ⟨.hbm, 397, rfl⟩
abbrev main_v263 : Ref sig .tc := ⟨.hbm, 398, rfl⟩
abbrev main_v264 : Ref sig .tc := ⟨.hbm, 399, rfl⟩
abbrev main_v265 : Ref sig .tc := ⟨.hbm, 400, rfl⟩
abbrev main_v266 : Ref sig .tc := ⟨.hbm, 401, rfl⟩
abbrev main_v267 : Ref sig .tc := ⟨.hbm, 402, rfl⟩
abbrev main_v268 : Ref sig .tc := ⟨.hbm, 403, rfl⟩
abbrev main_v269 : Ref sig .tc := ⟨.hbm, 404, rfl⟩
abbrev main_v270 : Ref sig .tc := ⟨.hbm, 405, rfl⟩
abbrev main_v271 : Ref sig .tc := ⟨.hbm, 406, rfl⟩
abbrev main_v272 : Ref sig .tc := ⟨.hbm, 407, rfl⟩
abbrev main_v273 : Ref sig .tc := ⟨.hbm, 408, rfl⟩
abbrev main_v274 : Ref sig .tc := ⟨.hbm, 409, rfl⟩
abbrev main_v275 : Ref sig .tc := ⟨.hbm, 410, rfl⟩
abbrev main_v276 : Ref sig .tc := ⟨.hbm, 411, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c100_i32 : BitVec 32 := 100#32
  let v131 : BitVec 32 := Scalar.addi c0_i32 c100_i32
  let c1_i32 : BitVec 32 := 1#32
  ⟨c0_i32, v131, c1_i32⟩
def k0_off1 (k0_t1 : Fin k0_t1_loop.trips) : Fin 3 → Nat :=
  let c0_157 : Index := 0#32
  let c0_i32 : BitVec 32 := 0#32
  let c1_i32 : BitVec 32 := 1#32
  let arg4 : BitVec 32 := Scf.iv c0_i32 c1_i32 k0_t1
  let v296 : Index := Scalar.indexCast arg4
  let c0_158 : Index := 0#32
  ![0, v296.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x11x40x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x100x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S2x1620x48x48 : Shape := ⟨4, ![2, 1620, 48, 48]⟩
abbrev S2x1620x24x24 : Shape := ⟨4, ![2, 1620, 24, 24]⟩
abbrev S2x1620x12x12 : Shape := ⟨4, ![2, 1620, 12, 12]⟩
abbrev S2x1620x6x6 : Shape := ⟨4, ![2, 1620, 6, 6]⟩
abbrev S2x1620x3x3 : Shape := ⟨4, ![2, 1620, 3, 3]⟩
abbrev S2x324x48x48 : Shape := ⟨4, ![2, 324, 48, 48]⟩
abbrev S2x324x24x24 : Shape := ⟨4, ![2, 324, 24, 24]⟩
abbrev S2x324x12x12 : Shape := ⟨4, ![2, 324, 12, 12]⟩
abbrev S2x324x6x6 : Shape := ⟨4, ![2, 324, 6, 6]⟩
abbrev S2x324x3x3 : Shape := ⟨4, ![2, 324, 3, 3]⟩
abbrev S27621x4 : Shape := ⟨2, ![27621, 4]⟩
abbrev S2 : Shape := ⟨1, ![2]⟩
abbrev S2x48x48x1620 : Shape := ⟨4, ![2, 48, 48, 1620]⟩
abbrev S2x48x48x540 : Shape := ⟨4, ![2, 48, 48, 540]⟩
abbrev S2x48x48x180x3 : Shape := ⟨5, ![2, 48, 48, 180, 3]⟩
abbrev S_ : Shape := ⟨0, ![]⟩
abbrev S2x48x48x180 : Shape := ⟨4, ![2, 48, 48, 180]⟩
abbrev S2x48x48x180x1 : Shape := ⟨5, ![2, 48, 48, 180, 1]⟩
abbrev S2x20736x20 : Shape := ⟨3, ![2, 20736, 20]⟩
abbrev S2x24x24x1620 : Shape := ⟨4, ![2, 24, 24, 1620]⟩
abbrev S2x24x24x540 : Shape := ⟨4, ![2, 24, 24, 540]⟩
abbrev S2x24x24x180x3 : Shape := ⟨5, ![2, 24, 24, 180, 3]⟩
abbrev S2x24x24x180 : Shape := ⟨4, ![2, 24, 24, 180]⟩
abbrev S2x24x24x180x1 : Shape := ⟨5, ![2, 24, 24, 180, 1]⟩
abbrev S2x5184x20 : Shape := ⟨3, ![2, 5184, 20]⟩
abbrev S2x12x12x1620 : Shape := ⟨4, ![2, 12, 12, 1620]⟩
abbrev S2x12x12x540 : Shape := ⟨4, ![2, 12, 12, 540]⟩
abbrev S2x12x12x180x3 : Shape := ⟨5, ![2, 12, 12, 180, 3]⟩
abbrev S2x12x12x180 : Shape := ⟨4, ![2, 12, 12, 180]⟩
abbrev S2x12x12x180x1 : Shape := ⟨5, ![2, 12, 12, 180, 1]⟩
abbrev S2x1296x20 : Shape := ⟨3, ![2, 1296, 20]⟩
abbrev S2x6x6x1620 : Shape := ⟨4, ![2, 6, 6, 1620]⟩
abbrev S2x6x6x540 : Shape := ⟨4, ![2, 6, 6, 540]⟩
abbrev S2x6x6x180x3 : Shape := ⟨5, ![2, 6, 6, 180, 3]⟩
abbrev S2x6x6x180 : Shape := ⟨4, ![2, 6, 6, 180]⟩
abbrev S2x6x6x180x1 : Shape := ⟨5, ![2, 6, 6, 180, 1]⟩
abbrev S2x324x20 : Shape := ⟨3, ![2, 324, 20]⟩
abbrev S2x3x3x1620 : Shape := ⟨4, ![2, 3, 3, 1620]⟩
abbrev S2x3x3x540 : Shape := ⟨4, ![2, 3, 3, 540]⟩
abbrev S2x3x3x180x3 : Shape := ⟨5, ![2, 3, 3, 180, 3]⟩
abbrev S2x3x3x180 : Shape := ⟨4, ![2, 3, 3, 180]⟩
abbrev S2x3x3x180x1 : Shape := ⟨5, ![2, 3, 3, 180, 1]⟩
abbrev S2x81x20 : Shape := ⟨3, ![2, 81, 20]⟩
abbrev S2x27621x20 : Shape := ⟨3, ![2, 27621, 20]⟩
abbrev S2x48x48x324 : Shape := ⟨4, ![2, 48, 48, 324]⟩
abbrev S2x48x48x108 : Shape := ⟨4, ![2, 48, 48, 108]⟩
abbrev S2x48x48x36x3 : Shape := ⟨5, ![2, 48, 48, 36, 3]⟩
abbrev S2x48x48x36 : Shape := ⟨4, ![2, 48, 48, 36]⟩
abbrev S2x48x48x36x1 : Shape := ⟨5, ![2, 48, 48, 36, 1]⟩
abbrev S2x20736x4 : Shape := ⟨3, ![2, 20736, 4]⟩
abbrev S2x24x24x324 : Shape := ⟨4, ![2, 24, 24, 324]⟩
abbrev S2x24x24x108 : Shape := ⟨4, ![2, 24, 24, 108]⟩
abbrev S2x24x24x36x3 : Shape := ⟨5, ![2, 24, 24, 36, 3]⟩
abbrev S2x24x24x36 : Shape := ⟨4, ![2, 24, 24, 36]⟩
abbrev S2x24x24x36x1 : Shape := ⟨5, ![2, 24, 24, 36, 1]⟩
abbrev S2x5184x4 : Shape := ⟨3, ![2, 5184, 4]⟩
abbrev S2x12x12x324 : Shape := ⟨4, ![2, 12, 12, 324]⟩
abbrev S2x12x12x108 : Shape := ⟨4, ![2, 12, 12, 108]⟩
abbrev S2x12x12x36x3 : Shape := ⟨5, ![2, 12, 12, 36, 3]⟩
abbrev S2x12x12x36 : Shape := ⟨4, ![2, 12, 12, 36]⟩
abbrev S2x12x12x36x1 : Shape := ⟨5, ![2, 12, 12, 36, 1]⟩
abbrev S2x1296x4 : Shape := ⟨3, ![2, 1296, 4]⟩
abbrev S2x6x6x324 : Shape := ⟨4, ![2, 6, 6, 324]⟩
abbrev S2x6x6x108 : Shape := ⟨4, ![2, 6, 6, 108]⟩
abbrev S2x6x6x36x3 : Shape := ⟨5, ![2, 6, 6, 36, 3]⟩
abbrev S2x6x6x36 : Shape := ⟨4, ![2, 6, 6, 36]⟩
abbrev S2x6x6x36x1 : Shape := ⟨5, ![2, 6, 6, 36, 1]⟩
abbrev S2x324x4 : Shape := ⟨3, ![2, 324, 4]⟩
abbrev S2x3x3x324 : Shape := ⟨4, ![2, 3, 3, 324]⟩
abbrev S2x3x3x108 : Shape := ⟨4, ![2, 3, 3, 108]⟩
abbrev S2x3x3x36x3 : Shape := ⟨5, ![2, 3, 3, 36, 3]⟩
abbrev S2x3x3x36 : Shape := ⟨4, ![2, 3, 3, 36]⟩
abbrev S2x3x3x36x1 : Shape := ⟨5, ![2, 3, 3, 36, 1]⟩
abbrev S2x81x4 : Shape := ⟨3, ![2, 81, 4]⟩
abbrev S2x27621x4 : Shape := ⟨3, ![2, 27621, 4]⟩
abbrev S2x552420 : Shape := ⟨2, ![2, 552420]⟩
abbrev S2x5000 : Shape := ⟨2, ![2, 5000]⟩
abbrev S2x5000x1 : Shape := ⟨3, ![2, 5000, 1]⟩
abbrev S1 : Shape := ⟨1, ![1]⟩
abbrev S1x1x1 : Shape := ⟨3, ![1, 1, 1]⟩
abbrev S2x5000x4 : Shape := ⟨3, ![2, 5000, 4]⟩
abbrev S2x5000x20 : Shape := ⟨3, ![2, 5000, 20]⟩
abbrev S2x5000x1x1 : Shape := ⟨4, ![2, 5000, 1, 1]⟩
abbrev S1x1x1x1 : Shape := ⟨4, ![1, 1, 1, 1]⟩
abbrev S2x1 : Shape := ⟨2, ![2, 1]⟩
abbrev S100x2x6 : Shape := ⟨3, ![100, 2, 6]⟩
abbrev S2x1x1 : Shape := ⟨3, ![2, 1, 1]⟩
abbrev S2x1x4 : Shape := ⟨3, ![2, 1, 4]⟩
abbrev S2x4 : Shape := ⟨2, ![2, 4]⟩
abbrev S2x6 : Shape := ⟨2, ![2, 6]⟩
abbrev S2x1x2 : Shape := ⟨3, ![2, 1, 2]⟩
abbrev S2x5000x2 : Shape := ⟨3, ![2, 5000, 2]⟩
abbrev S1x2x6 : Shape := ⟨3, ![1, 2, 6]⟩
abbrev S2x100x6 : Shape := ⟨3, ![2, 100, 6]⟩

abbrev nBuf : Space → Nat
  | .hbm => 631
  | .vmem => 0
  | .smem => 0
  | _ => 0

abbrev hbmTy0_0 (i : Nat) : BufTy := match i % 128 with
  | 0 => ⟨S2x1620x48x48, .f32⟩
  | 1 => ⟨S2x1620x24x24, .f32⟩
  | 2 => ⟨S2x1620x12x12, .f32⟩
  | 3 => ⟨S2x1620x6x6, .f32⟩
  | 4 => ⟨S2x1620x3x3, .f32⟩
  | 5 => ⟨S2x324x48x48, .f32⟩
  | 6 => ⟨S2x324x24x24, .f32⟩
  | 7 => ⟨S2x324x12x12, .f32⟩
  | 8 => ⟨S2x324x6x6, .f32⟩
  | 9 => ⟨S2x324x3x3, .f32⟩
  | 10 => ⟨S27621x4, .f32⟩
  | 11 => ⟨S2, .f32⟩
  | 12 => ⟨S2x48x48x1620, .f32⟩
  | 13 => ⟨S2x48x48x540, .f32⟩
  | 14 => ⟨S2x48x48x540, .f32⟩
  | 15 => ⟨S2x48x48x540, .f32⟩
  | 16 => ⟨S2x48x48x180x3, .f32⟩
  | 17 => ⟨S_, .f32⟩
  | 18 => ⟨S2x48x48x180, .f32⟩
  | 19 => ⟨S_, .f32⟩
  | 20 => ⟨S2x48x48x180, .f32⟩
  | 21 => ⟨S2x48x48x180, .f32⟩
  | 22 => ⟨S2x48x48x180x1, .f32⟩
  | 23 => ⟨S2x48x48x180x3, .f32⟩
  | 24 => ⟨S2x48x48x180x3, .f32⟩
  | 25 => ⟨S2x48x48x180x3, .f32⟩
  | 26 => ⟨S_, .f32⟩
  | 27 => ⟨S2x48x48x180, .f32⟩
  | 28 => ⟨S2x48x48x180x1, .f32⟩
  | 29 => ⟨S2x48x48x180x3, .f32⟩
  | 30 => ⟨S2x48x48x180x3, .f32⟩
  | 31 => ⟨S2x48x48x540, .f32⟩
  | 32 => ⟨S2x48x48x540, .f32⟩
  | 33 => ⟨S2x48x48x180x3, .f32⟩
  | 34 => ⟨S_, .f32⟩
  | 35 => ⟨S2x48x48x180, .f32⟩
  | 36 => ⟨S2x20736x20, .f32⟩
  | 37 => ⟨S2x24x24x1620, .f32⟩
  | 38 => ⟨S2x24x24x540, .f32⟩
  | 39 => ⟨S2x24x24x540, .f32⟩
  | 40 => ⟨S2x24x24x540, .f32⟩
  | 41 => ⟨S2x24x24x180x3, .f32⟩
  | 42 => ⟨S_, .f32⟩
  | 43 => ⟨S2x24x24x180, .f32⟩
  | 44 => ⟨S_, .f32⟩
  | 45 => ⟨S2x24x24x180, .f32⟩
  | 46 => ⟨S2x24x24x180, .f32⟩
  | 47 => ⟨S2x24x24x180x1, .f32⟩
  | 48 => ⟨S2x24x24x180x3, .f32⟩
  | 49 => ⟨S2x24x24x180x3, .f32⟩
  | 50 => ⟨S2x24x24x180x3, .f32⟩
  | 51 => ⟨S_, .f32⟩
  | 52 => ⟨S2x24x24x180, .f32⟩
  | 53 => ⟨S2x24x24x180x1, .f32⟩
  | 54 => ⟨S2x24x24x180x3, .f32⟩
  | 55 => ⟨S2x24x24x180x3, .f32⟩
  | 56 => ⟨S2x24x24x540, .f32⟩
  | 57 => ⟨S2x24x24x540, .f32⟩
  | 58 => ⟨S2x24x24x180x3, .f32⟩
  | 59 => ⟨S_, .f32⟩
  | 60 => ⟨S2x24x24x180, .f32⟩
  | 61 => ⟨S2x5184x20, .f32⟩
  | 62 => ⟨S2x12x12x1620, .f32⟩
  | 63 => ⟨S2x12x12x540, .f32⟩
  | 64 => ⟨S2x12x12x540, .f32⟩
  | 65 => ⟨S2x12x12x540, .f32⟩
  | 66 => ⟨S2x12x12x180x3, .f32⟩
  | 67 => ⟨S_, .f32⟩
  | 68 => ⟨S2x12x12x180, .f32⟩
  | 69 => ⟨S_, .f32⟩
  | 70 => ⟨S2x12x12x180, .f32⟩
  | 71 => ⟨S2x12x12x180, .f32⟩
  | 72 => ⟨S2x12x12x180x1, .f32⟩
  | 73 => ⟨S2x12x12x180x3, .f32⟩
  | 74 => ⟨S2x12x12x180x3, .f32⟩
  | 75 => ⟨S2x12x12x180x3, .f32⟩
  | 76 => ⟨S_, .f32⟩
  | 77 => ⟨S2x12x12x180, .f32⟩
  | 78 => ⟨S2x12x12x180x1, .f32⟩
  | 79 => ⟨S2x12x12x180x3, .f32⟩
  | 80 => ⟨S2x12x12x180x3, .f32⟩
  | 81 => ⟨S2x12x12x540, .f32⟩
  | 82 => ⟨S2x12x12x540, .f32⟩
  | 83 => ⟨S2x12x12x180x3, .f32⟩
  | 84 => ⟨S_, .f32⟩
  | 85 => ⟨S2x12x12x180, .f32⟩
  | 86 => ⟨S2x1296x20, .f32⟩
  | 87 => ⟨S2x6x6x1620, .f32⟩
  | 88 => ⟨S2x6x6x540, .f32⟩
  | 89 => ⟨S2x6x6x540, .f32⟩
  | 90 => ⟨S2x6x6x540, .f32⟩
  | 91 => ⟨S2x6x6x180x3, .f32⟩
  | 92 => ⟨S_, .f32⟩
  | 93 => ⟨S2x6x6x180, .f32⟩
  | 94 => ⟨S_, .f32⟩
  | 95 => ⟨S2x6x6x180, .f32⟩
  | 96 => ⟨S2x6x6x180, .f32⟩
  | 97 => ⟨S2x6x6x180x1, .f32⟩
  | 98 => ⟨S2x6x6x180x3, .f32⟩
  | 99 => ⟨S2x6x6x180x3, .f32⟩
  | 100 => ⟨S2x6x6x180x3, .f32⟩
  | 101 => ⟨S_, .f32⟩
  | 102 => ⟨S2x6x6x180, .f32⟩
  | 103 => ⟨S2x6x6x180x1, .f32⟩
  | 104 => ⟨S2x6x6x180x3, .f32⟩
  | 105 => ⟨S2x6x6x180x3, .f32⟩
  | 106 => ⟨S2x6x6x540, .f32⟩
  | 107 => ⟨S2x6x6x540, .f32⟩
  | 108 => ⟨S2x6x6x180x3, .f32⟩
  | 109 => ⟨S_, .f32⟩
  | 110 => ⟨S2x6x6x180, .f32⟩
  | 111 => ⟨S2x324x20, .f32⟩
  | 112 => ⟨S2x3x3x1620, .f32⟩
  | 113 => ⟨S2x3x3x540, .f32⟩
  | 114 => ⟨S2x3x3x540, .f32⟩
  | 115 => ⟨S2x3x3x540, .f32⟩
  | 116 => ⟨S2x3x3x180x3, .f32⟩
  | 117 => ⟨S_, .f32⟩
  | 118 => ⟨S2x3x3x180, .f32⟩
  | 119 => ⟨S_, .f32⟩
  | 120 => ⟨S2x3x3x180, .f32⟩
  | 121 => ⟨S2x3x3x180, .f32⟩
  | 122 => ⟨S2x3x3x180x1, .f32⟩
  | 123 => ⟨S2x3x3x180x3, .f32⟩
  | 124 => ⟨S2x3x3x180x3, .f32⟩
  | 125 => ⟨S2x3x3x180x3, .f32⟩
  | 126 => ⟨S_, .f32⟩
  | 127 => ⟨S2x3x3x180, .f32⟩
  | _ => ⟨S2x1620x48x48, .f32⟩

abbrev hbmTy0_1 (i : Nat) : BufTy := match i % 128 with
  | 0 => ⟨S2x3x3x180x1, .f32⟩
  | 1 => ⟨S2x3x3x180x3, .f32⟩
  | 2 => ⟨S2x3x3x180x3, .f32⟩
  | 3 => ⟨S2x3x3x540, .f32⟩
  | 4 => ⟨S2x3x3x540, .f32⟩
  | 5 => ⟨S2x3x3x180x3, .f32⟩
  | 6 => ⟨S_, .f32⟩
  | 7 => ⟨S2x3x3x180, .f32⟩
  | 8 => ⟨S2x81x20, .f32⟩
  | 9 => ⟨S2x27621x20, .f32⟩
  | 10 => ⟨S2x48x48x324, .f32⟩
  | 11 => ⟨S2x48x48x108, .f32⟩
  | 12 => ⟨S2x48x48x108, .f32⟩
  | 13 => ⟨S2x48x48x108, .f32⟩
  | 14 => ⟨S2x48x48x36x3, .f32⟩
  | 15 => ⟨S_, .f32⟩
  | 16 => ⟨S2x48x48x36, .f32⟩
  | 17 => ⟨S_, .f32⟩
  | 18 => ⟨S2x48x48x36, .f32⟩
  | 19 => ⟨S2x48x48x36, .f32⟩
  | 20 => ⟨S2x48x48x36x1, .f32⟩
  | 21 => ⟨S2x48x48x36x3, .f32⟩
  | 22 => ⟨S2x48x48x36x3, .f32⟩
  | 23 => ⟨S2x48x48x36x3, .f32⟩
  | 24 => ⟨S_, .f32⟩
  | 25 => ⟨S2x48x48x36, .f32⟩
  | 26 => ⟨S2x48x48x36x1, .f32⟩
  | 27 => ⟨S2x48x48x36x3, .f32⟩
  | 28 => ⟨S2x48x48x36x3, .f32⟩
  | 29 => ⟨S2x48x48x108, .f32⟩
  | 30 => ⟨S2x48x48x108, .f32⟩
  | 31 => ⟨S2x48x48x36x3, .f32⟩
  | 32 => ⟨S_, .f32⟩
  | 33 => ⟨S2x48x48x36, .f32⟩
  | 34 => ⟨S2x20736x4, .f32⟩
  | 35 => ⟨S2x24x24x324, .f32⟩
  | 36 => ⟨S2x24x24x108, .f32⟩
  | 37 => ⟨S2x24x24x108, .f32⟩
  | 38 => ⟨S2x24x24x108, .f32⟩
  | 39 => ⟨S2x24x24x36x3, .f32⟩
  | 40 => ⟨S_, .f32⟩
  | 41 => ⟨S2x24x24x36, .f32⟩
  | 42 => ⟨S_, .f32⟩
  | 43 => ⟨S2x24x24x36, .f32⟩
  | 44 => ⟨S2x24x24x36, .f32⟩
  | 45 => ⟨S2x24x24x36x1, .f32⟩
  | 46 => ⟨S2x24x24x36x3, .f32⟩
  | 47 => ⟨S2x24x24x36x3, .f32⟩
  | 48 => ⟨S2x24x24x36x3, .f32⟩
  | 49 => ⟨S_, .f32⟩
  | 50 => ⟨S2x24x24x36, .f32⟩
  | 51 => ⟨S2x24x24x36x1, .f32⟩
  | 52 => ⟨S2x24x24x36x3, .f32⟩
  | 53 => ⟨S2x24x24x36x3, .f32⟩
  | 54 => ⟨S2x24x24x108, .f32⟩
  | 55 => ⟨S2x24x24x108, .f32⟩
  | 56 => ⟨S2x24x24x36x3, .f32⟩
  | 57 => ⟨S_, .f32⟩
  | 58 => ⟨S2x24x24x36, .f32⟩
  | 59 => ⟨S2x5184x4, .f32⟩
  | 60 => ⟨S2x12x12x324, .f32⟩
  | 61 => ⟨S2x12x12x108, .f32⟩
  | 62 => ⟨S2x12x12x108, .f32⟩
  | 63 => ⟨S2x12x12x108, .f32⟩
  | 64 => ⟨S2x12x12x36x3, .f32⟩
  | 65 => ⟨S_, .f32⟩
  | 66 => ⟨S2x12x12x36, .f32⟩
  | 67 => ⟨S_, .f32⟩
  | 68 => ⟨S2x12x12x36, .f32⟩
  | 69 => ⟨S2x12x12x36, .f32⟩
  | 70 => ⟨S2x12x12x36x1, .f32⟩
  | 71 => ⟨S2x12x12x36x3, .f32⟩
  | 72 => ⟨S2x12x12x36x3, .f32⟩
  | 73 => ⟨S2x12x12x36x3, .f32⟩
  | 74 => ⟨S_, .f32⟩
  | 75 => ⟨S2x12x12x36, .f32⟩
  | 76 => ⟨S2x12x12x36x1, .f32⟩
  | 77 => ⟨S2x12x12x36x3, .f32⟩
  | 78 => ⟨S2x12x12x36x3, .f32⟩
  | 79 => ⟨S2x12x12x108, .f32⟩
  | 80 => ⟨S2x12x12x108, .f32⟩
  | 81 => ⟨S2x12x12x36x3, .f32⟩
  | 82 => ⟨S_, .f32⟩
  | 83 => ⟨S2x12x12x36, .f32⟩
  | 84 => ⟨S2x1296x4, .f32⟩
  | 85 => ⟨S2x6x6x324, .f32⟩
  | 86 => ⟨S2x6x6x108, .f32⟩
  | 87 => ⟨S2x6x6x108, .f32⟩
  | 88 => ⟨S2x6x6x108, .f32⟩
  | 89 => ⟨S2x6x6x36x3, .f32⟩
  | 90 => ⟨S_, .f32⟩
  | 91 => ⟨S2x6x6x36, .f32⟩
  | 92 => ⟨S_, .f32⟩
  | 93 => ⟨S2x6x6x36, .f32⟩
  | 94 => ⟨S2x6x6x36, .f32⟩
  | 95 => ⟨S2x6x6x36x1, .f32⟩
  | 96 => ⟨S2x6x6x36x3, .f32⟩
  | 97 => ⟨S2x6x6x36x3, .f32⟩
  | 98 => ⟨S2x6x6x36x3, .f32⟩
  | 99 => ⟨S_, .f32⟩
  | 100 => ⟨S2x6x6x36, .f32⟩
  | 101 => ⟨S2x6x6x36x1, .f32⟩
  | 102 => ⟨S2x6x6x36x3, .f32⟩
  | 103 => ⟨S2x6x6x36x3, .f32⟩
  | 104 => ⟨S2x6x6x108, .f32⟩
  | 105 => ⟨S2x6x6x108, .f32⟩
  | 106 => ⟨S2x6x6x36x3, .f32⟩
  | 107 => ⟨S_, .f32⟩
  | 108 => ⟨S2x6x6x36, .f32⟩
  | 109 => ⟨S2x324x4, .f32⟩
  | 110 => ⟨S2x3x3x324, .f32⟩
  | 111 => ⟨S2x3x3x108, .f32⟩
  | 112 => ⟨S2x3x3x108, .f32⟩
  | 113 => ⟨S2x3x3x108, .f32⟩
  | 114 => ⟨S2x3x3x36x3, .f32⟩
  | 115 => ⟨S_, .f32⟩
  | 116 => ⟨S2x3x3x36, .f32⟩
  | 117 => ⟨S_, .f32⟩
  | 118 => ⟨S2x3x3x36, .f32⟩
  | 119 => ⟨S2x3x3x36, .f32⟩
  | 120 => ⟨S2x3x3x36x1, .f32⟩
  | 121 => ⟨S2x3x3x36x3, .f32⟩
  | 122 => ⟨S2x3x3x36x3, .f32⟩
  | 123 => ⟨S2x3x3x36x3, .f32⟩
  | 124 => ⟨S_, .f32⟩
  | 125 => ⟨S2x3x3x36, .f32⟩
  | 126 => ⟨S2x3x3x36x1, .f32⟩
  | 127 => ⟨S2x3x3x36x3, .f32⟩
  | _ => ⟨S2x1620x48x48, .f32⟩

abbrev hbmTy0_2 (i : Nat) : BufTy := match i % 128 with
  | 0 => ⟨S2x3x3x36x3, .f32⟩
  | 1 => ⟨S2x3x3x108, .f32⟩
  | 2 => ⟨S2x3x3x108, .f32⟩
  | 3 => ⟨S2x3x3x36x3, .f32⟩
  | 4 => ⟨S_, .f32⟩
  | 5 => ⟨S2x3x3x36, .f32⟩
  | 6 => ⟨S2x81x4, .f32⟩
  | 7 => ⟨S2x27621x4, .f32⟩
  | 8 => ⟨S2x552420, .f32⟩
  | 9 => ⟨S2x5000, .f32⟩
  | 10 => ⟨S2x5000, .i32⟩
  | 11 => ⟨S_, .i32⟩
  | 12 => ⟨S_, .i32⟩
  | 13 => ⟨S2x5000, .i32⟩
  | 14 => ⟨S2x5000, .i32⟩
  | 15 => ⟨S2x5000, .i32⟩
  | 16 => ⟨S_, .i32⟩
  | 17 => ⟨S2x5000, .i32⟩
  | 18 => ⟨S2x5000, .i1⟩
  | 19 => ⟨S2x5000, .i32⟩
  | 20 => ⟨S2x5000, .i32⟩
  | 21 => ⟨S_, .i32⟩
  | 22 => ⟨S2x5000, .i32⟩
  | 23 => ⟨S2x5000, .i1⟩
  | 24 => ⟨S2x5000, .i1⟩
  | 25 => ⟨S_, .i32⟩
  | 26 => ⟨S2x5000, .i32⟩
  | 27 => ⟨S2x5000, .i32⟩
  | 28 => ⟨S2x5000, .i32⟩
  | 29 => ⟨S_, .i32⟩
  | 30 => ⟨S2x5000, .i32⟩
  | 31 => ⟨S2x5000, .i32⟩
  | 32 => ⟨S2x5000x1, .i32⟩
  | 33 => ⟨S_, .i32⟩
  | 34 => ⟨S2x5000x1, .i32⟩
  | 35 => ⟨S2x5000x1, .i1⟩
  | 36 => ⟨S_, .i32⟩
  | 37 => ⟨S2x5000x1, .i32⟩
  | 38 => ⟨S2x5000x1, .i32⟩
  | 39 => ⟨S2x5000x1, .i32⟩
  | 40 => ⟨S1, .i32⟩
  | 41 => ⟨S_, .i32⟩
  | 42 => ⟨S2x5000x1, .i32⟩
  | 43 => ⟨S2x5000x1, .i1⟩
  | 44 => ⟨S1x1x1, .i32⟩
  | 45 => ⟨S2x5000x1, .i32⟩
  | 46 => ⟨S2x5000x1, .i1⟩
  | 47 => ⟨S2x5000x1, .i1⟩
  | 48 => ⟨S_, .i1⟩
  | 49 => ⟨S2x5000, .i1⟩
  | 50 => ⟨S2x5000x4, .f32⟩
  | 51 => ⟨S2x5000x4, .i1⟩
  | 52 => ⟨S_, .f32⟩
  | 53 => ⟨S2x5000x4, .f32⟩
  | 54 => ⟨S2x5000x4, .f32⟩
  | 55 => ⟨S2x5000x1, .i32⟩
  | 56 => ⟨S_, .i32⟩
  | 57 => ⟨S2x5000x1, .i32⟩
  | 58 => ⟨S2x5000x1, .i1⟩
  | 59 => ⟨S_, .i32⟩
  | 60 => ⟨S2x5000x1, .i32⟩
  | 61 => ⟨S2x5000x1, .i32⟩
  | 62 => ⟨S2x5000x1, .i32⟩
  | 63 => ⟨S1, .i32⟩
  | 64 => ⟨S_, .i32⟩
  | 65 => ⟨S2x5000x1, .i32⟩
  | 66 => ⟨S2x5000x1, .i1⟩
  | 67 => ⟨S1x1x1, .i32⟩
  | 68 => ⟨S2x5000x1, .i32⟩
  | 69 => ⟨S2x5000x1, .i1⟩
  | 70 => ⟨S2x5000x1, .i1⟩
  | 71 => ⟨S_, .i1⟩
  | 72 => ⟨S2x5000, .i1⟩
  | 73 => ⟨S2x5000x20, .f32⟩
  | 74 => ⟨S2x5000x20, .i1⟩
  | 75 => ⟨S_, .f32⟩
  | 76 => ⟨S2x5000x20, .f32⟩
  | 77 => ⟨S2x5000x20, .f32⟩
  | 78 => ⟨S2x5000x1, .i32⟩
  | 79 => ⟨S_, .i32⟩
  | 80 => ⟨S2x5000x1, .i32⟩
  | 81 => ⟨S2x5000x1, .i1⟩
  | 82 => ⟨S_, .i32⟩
  | 83 => ⟨S2x5000x1, .i32⟩
  | 84 => ⟨S2x5000x1, .i32⟩
  | 85 => ⟨S2x5000x1, .i32⟩
  | 86 => ⟨S2x5000x1x1, .i32⟩
  | 87 => ⟨S1, .i32⟩
  | 88 => ⟨S_, .i32⟩
  | 89 => ⟨S2x5000x1x1, .i32⟩
  | 90 => ⟨S2x5000x1x1, .i1⟩
  | 91 => ⟨S1x1x1x1, .i32⟩
  | 92 => ⟨S2x5000x1x1, .i32⟩
  | 93 => ⟨S2x5000x1x1, .i1⟩
  | 94 => ⟨S2x5000x1x1, .i1⟩
  | 95 => ⟨S_, .i1⟩
  | 96 => ⟨S2x5000x1, .i1⟩
  | 97 => ⟨S2x5000x1, .f32⟩
  | 98 => ⟨S_, .f32⟩
  | 99 => ⟨S2x5000x1, .f32⟩
  | 100 => ⟨S2x5000x1, .f32⟩
  | 101 => ⟨S_, .i32⟩
  | 102 => ⟨S2x5000, .i32⟩
  | 103 => ⟨S2x5000, .i1⟩
  | 104 => ⟨S_, .i32⟩
  | 105 => ⟨S2x5000, .i32⟩
  | 106 => ⟨S2x5000, .i32⟩
  | 107 => ⟨S2x5000, .i32⟩
  | 108 => ⟨S2x5000x1, .i32⟩
  | 109 => ⟨S2x5000x4, .f32⟩
  | 110 => ⟨S2x5000x1, .f32⟩
  | 111 => ⟨S2x5000, .f32⟩
  | 112 => ⟨S2x5000x1, .f32⟩
  | 113 => ⟨S2x5000, .f32⟩
  | 114 => ⟨S2x5000, .f32⟩
  | 115 => ⟨S_, .f32⟩
  | 116 => ⟨S2x5000, .f32⟩
  | 117 => ⟨S2x5000, .f32⟩
  | 118 => ⟨S2x5000x1, .f32⟩
  | 119 => ⟨S2x5000, .f32⟩
  | 120 => ⟨S2x5000x1, .f32⟩
  | 121 => ⟨S2x5000, .f32⟩
  | 122 => ⟨S2x5000, .f32⟩
  | 123 => ⟨S_, .f32⟩
  | 124 => ⟨S2x5000, .f32⟩
  | 125 => ⟨S2x5000, .f32⟩
  | 126 => ⟨S2x5000x1, .f32⟩
  | 127 => ⟨S2x5000, .f32⟩
  | _ => ⟨S2x1620x48x48, .f32⟩

abbrev hbmTy0_3 (i : Nat) : BufTy := match i % 128 with
  | 0 => ⟨S2x5000x1, .f32⟩
  | 1 => ⟨S2x5000, .f32⟩
  | 2 => ⟨S2x5000, .f32⟩
  | 3 => ⟨S2x5000x1, .f32⟩
  | 4 => ⟨S2x5000, .f32⟩
  | 5 => ⟨S2x5000x1, .f32⟩
  | 6 => ⟨S2x5000, .f32⟩
  | 7 => ⟨S2x5000, .f32⟩
  | 8 => ⟨S2x5000x1, .f32⟩
  | 9 => ⟨S2x5000, .f32⟩
  | 10 => ⟨S2x5000x1, .f32⟩
  | 11 => ⟨S2x5000, .f32⟩
  | 12 => ⟨S2x5000x1, .f32⟩
  | 13 => ⟨S2x5000, .f32⟩
  | 14 => ⟨S2x5000x1, .f32⟩
  | 15 => ⟨S2x5000, .f32⟩
  | 16 => ⟨S2x5000, .f32⟩
  | 17 => ⟨S2x5000, .f32⟩
  | 18 => ⟨S2x5000, .f32⟩
  | 19 => ⟨S2x5000, .f32⟩
  | 20 => ⟨S2x5000, .f32⟩
  | 21 => ⟨S2x5000, .f32⟩
  | 22 => ⟨S2x5000, .f32⟩
  | 23 => ⟨S2x5000, .f32⟩
  | 24 => ⟨S_, .f32⟩
  | 25 => ⟨S2x5000, .f32⟩
  | 26 => ⟨S2x5000, .f32⟩
  | 27 => ⟨S2x5000, .f32⟩
  | 28 => ⟨S_, .f32⟩
  | 29 => ⟨S2x5000, .f32⟩
  | 30 => ⟨S2x5000, .f32⟩
  | 31 => ⟨S2x5000, .f32⟩
  | 32 => ⟨S_, .f32⟩
  | 33 => ⟨S2x5000, .f32⟩
  | 34 => ⟨S2x5000, .f32⟩
  | 35 => ⟨S2x5000, .f32⟩
  | 36 => ⟨S_, .f32⟩
  | 37 => ⟨S2x5000, .f32⟩
  | 38 => ⟨S2x5000, .f32⟩
  | 39 => ⟨S2x5000, .f32⟩
  | 40 => ⟨S2x5000x1, .f32⟩
  | 41 => ⟨S2x5000x1, .f32⟩
  | 42 => ⟨S2x5000x1, .f32⟩
  | 43 => ⟨S2x5000x1, .f32⟩
  | 44 => ⟨S2x5000x4, .f32⟩
  | 45 => ⟨S2x5000, .f32⟩
  | 46 => ⟨S2x5000, .f32⟩
  | 47 => ⟨S2x5000, .f32⟩
  | 48 => ⟨S_, .f32⟩
  | 49 => ⟨S2x5000, .f32⟩
  | 50 => ⟨S2x5000, .f32⟩
  | 51 => ⟨S_, .f32⟩
  | 52 => ⟨S2x5000, .f32⟩
  | 53 => ⟨S2x5000, .f32⟩
  | 54 => ⟨S_, .f32⟩
  | 55 => ⟨S2, .f32⟩
  | 56 => ⟨S2x5000, .f32⟩
  | 57 => ⟨S_, .f32⟩
  | 58 => ⟨S2, .f32⟩
  | 59 => ⟨S2, .f32⟩
  | 60 => ⟨S2x1, .f32⟩
  | 61 => ⟨S2x5000, .f32⟩
  | 62 => ⟨S2x5000, .f32⟩
  | 63 => ⟨S2x5000x1, .f32⟩
  | 64 => ⟨S2x5000x4, .f32⟩
  | 65 => ⟨S2x5000x4, .f32⟩
  | 66 => ⟨S_, .f32⟩
  | 67 => ⟨S100x2x6, .f32⟩
  | 68 => ⟨S_, .i32⟩
  | 69 => ⟨S2x5000x4, .f32⟩
  | 70 => ⟨S2x5000, .i32⟩
  | 71 => ⟨S2, .f32⟩
  | 72 => ⟨S2x5000x4, .f32⟩
  | 73 => ⟨S_, .i32⟩
  | 74 => ⟨S2x5000, .f32⟩
  | 75 => ⟨S100x2x6, .f32⟩
  | 76 => ⟨S_, .i32⟩
  | 77 => ⟨S_, .i1⟩
  | 78 => ⟨S2x1, .f32⟩
  | 79 => ⟨S2x1, .i32⟩
  | 80 => ⟨S_, .i32⟩
  | 81 => ⟨S2x1, .i32⟩
  | 82 => ⟨S2x1, .i1⟩
  | 83 => ⟨S_, .i32⟩
  | 84 => ⟨S2x1, .i32⟩
  | 85 => ⟨S2x1, .i32⟩
  | 86 => ⟨S2x1, .i32⟩
  | 87 => ⟨S2x1x1, .i32⟩
  | 88 => ⟨S1, .i32⟩
  | 89 => ⟨S_, .i32⟩
  | 90 => ⟨S2x1x1, .i32⟩
  | 91 => ⟨S2x1x1, .i1⟩
  | 92 => ⟨S1x1x1, .i32⟩
  | 93 => ⟨S2x1x1, .i32⟩
  | 94 => ⟨S2x1x1, .i1⟩
  | 95 => ⟨S2x1x1, .i1⟩
  | 96 => ⟨S_, .i1⟩
  | 97 => ⟨S2x1, .i1⟩
  | 98 => ⟨S2x1, .f32⟩
  | 99 => ⟨S_, .f32⟩
  | 100 => ⟨S2x1, .f32⟩
  | 101 => ⟨S2x1, .f32⟩
  | 102 => ⟨S2x1x1, .i32⟩
  | 103 => ⟨S_, .i32⟩
  | 104 => ⟨S2x1x1, .i32⟩
  | 105 => ⟨S2x1x1, .i1⟩
  | 106 => ⟨S_, .i32⟩
  | 107 => ⟨S2x1x1, .i32⟩
  | 108 => ⟨S2x1x1, .i32⟩
  | 109 => ⟨S2x1x1, .i32⟩
  | 110 => ⟨S1, .i32⟩
  | 111 => ⟨S_, .i32⟩
  | 112 => ⟨S2x1x1, .i32⟩
  | 113 => ⟨S2x1x1, .i1⟩
  | 114 => ⟨S1x1x1, .i32⟩
  | 115 => ⟨S2x1x1, .i32⟩
  | 116 => ⟨S2x1x1, .i1⟩
  | 117 => ⟨S2x1x1, .i1⟩
  | 118 => ⟨S_, .i1⟩
  | 119 => ⟨S2x1, .i1⟩
  | 120 => ⟨S2x1x4, .f32⟩
  | 121 => ⟨S2x1x4, .i1⟩
  | 122 => ⟨S_, .f32⟩
  | 123 => ⟨S2x1x4, .f32⟩
  | 124 => ⟨S2x1x4, .f32⟩
  | 125 => ⟨S2x4, .f32⟩
  | 126 => ⟨S_, .i32⟩
  | 127 => ⟨S2x1, .i32⟩
  | _ => ⟨S2x1620x48x48, .f32⟩

abbrev hbmTy0_4 (i : Nat) : BufTy := match i % 128 with
  | 0 => ⟨S2x1, .i1⟩
  | 1 => ⟨S_, .i32⟩
  | 2 => ⟨S2x1, .i32⟩
  | 3 => ⟨S2x1, .i32⟩
  | 4 => ⟨S2x1, .i32⟩
  | 5 => ⟨S2x1x1, .i32⟩
  | 6 => ⟨S1, .i32⟩
  | 7 => ⟨S_, .i32⟩
  | 8 => ⟨S2x1x1, .i32⟩
  | 9 => ⟨S2x1x1, .i1⟩
  | 10 => ⟨S1x1x1, .i32⟩
  | 11 => ⟨S2x1x1, .i32⟩
  | 12 => ⟨S2x1x1, .i1⟩
  | 13 => ⟨S2x1x1, .i1⟩
  | 14 => ⟨S_, .i1⟩
  | 15 => ⟨S2x1, .i1⟩
  | 16 => ⟨S2x1, .i32⟩
  | 17 => ⟨S_, .i32⟩
  | 18 => ⟨S2x1, .i32⟩
  | 19 => ⟨S2x1, .i32⟩
  | 20 => ⟨S2x1, .f32⟩
  | 21 => ⟨S2x4, .f32⟩
  | 22 => ⟨S2x4, .f32⟩
  | 23 => ⟨S_, .i32⟩
  | 24 => ⟨S2x1, .i32⟩
  | 25 => ⟨S2x1, .i32⟩
  | 26 => ⟨S2x1, .f32⟩
  | 27 => ⟨S2x6, .f32⟩
  | 28 => ⟨S_, .f32⟩
  | 29 => ⟨S2x1, .f32⟩
  | 30 => ⟨S2x1, .i1⟩
  | 31 => ⟨S_, .f32⟩
  | 32 => ⟨S2x6, .f32⟩
  | 33 => ⟨S2x6, .i1⟩
  | 34 => ⟨S2x6, .f32⟩
  | 35 => ⟨S2x1x1, .i32⟩
  | 36 => ⟨S_, .i32⟩
  | 37 => ⟨S2x1x1, .i32⟩
  | 38 => ⟨S2x1x1, .i1⟩
  | 39 => ⟨S_, .i32⟩
  | 40 => ⟨S2x1x1, .i32⟩
  | 41 => ⟨S2x1x1, .i32⟩
  | 42 => ⟨S2x1x1, .i32⟩
  | 43 => ⟨S1, .i32⟩
  | 44 => ⟨S_, .i32⟩
  | 45 => ⟨S2x1x1, .i32⟩
  | 46 => ⟨S2x1x1, .i1⟩
  | 47 => ⟨S1x1x1, .i32⟩
  | 48 => ⟨S2x1x1, .i32⟩
  | 49 => ⟨S2x1x1, .i1⟩
  | 50 => ⟨S2x1x1, .i1⟩
  | 51 => ⟨S_, .i1⟩
  | 52 => ⟨S2x1, .i1⟩
  | 53 => ⟨S2x1x4, .f32⟩
  | 54 => ⟨S2x1x4, .i1⟩
  | 55 => ⟨S_, .f32⟩
  | 56 => ⟨S2x1x4, .f32⟩
  | 57 => ⟨S2x1x4, .f32⟩
  | 58 => ⟨S2x1x1, .f32⟩
  | 59 => ⟨S2x1, .f32⟩
  | 60 => ⟨S2x1x1, .f32⟩
  | 61 => ⟨S2x1, .f32⟩
  | 62 => ⟨S2x1, .f32⟩
  | 63 => ⟨S2x1x1, .f32⟩
  | 64 => ⟨S2x1, .f32⟩
  | 65 => ⟨S2x1x1, .f32⟩
  | 66 => ⟨S2x1, .f32⟩
  | 67 => ⟨S2x1, .f32⟩
  | 68 => ⟨S2x1, .f32⟩
  | 69 => ⟨S2x5000x1, .f32⟩
  | 70 => ⟨S2x5000, .f32⟩
  | 71 => ⟨S2x5000x1, .f32⟩
  | 72 => ⟨S2x5000, .f32⟩
  | 73 => ⟨S2x5000, .f32⟩
  | 74 => ⟨S2x5000x1, .f32⟩
  | 75 => ⟨S2x5000, .f32⟩
  | 76 => ⟨S2x5000x1, .f32⟩
  | 77 => ⟨S2x5000, .f32⟩
  | 78 => ⟨S2x5000, .f32⟩
  | 79 => ⟨S2x5000, .f32⟩
  | 80 => ⟨S2x1x2, .f32⟩
  | 81 => ⟨S2x5000x2, .f32⟩
  | 82 => ⟨S2x5000x2, .f32⟩
  | 83 => ⟨S2x5000x2, .f32⟩
  | 84 => ⟨S2x1x2, .f32⟩
  | 85 => ⟨S2x5000x2, .f32⟩
  | 86 => ⟨S2x5000x2, .f32⟩
  | 87 => ⟨S2x5000x2, .f32⟩
  | 88 => ⟨S2x5000x2, .f32⟩
  | 89 => ⟨S_, .f32⟩
  | 90 => ⟨S_, .f32⟩
  | 91 => ⟨S2x5000x2, .f32⟩
  | 92 => ⟨S2x5000x2, .f32⟩
  | 93 => ⟨S2x5000x1, .f32⟩
  | 94 => ⟨S2x5000, .f32⟩
  | 95 => ⟨S2x5000x1, .f32⟩
  | 96 => ⟨S2x5000, .f32⟩
  | 97 => ⟨S2x5000, .f32⟩
  | 98 => ⟨S2x5000, .f32⟩
  | 99 => ⟨S2x5000, .f32⟩
  | 100 => ⟨S2x5000, .f32⟩
  | 101 => ⟨S_, .f32⟩
  | 102 => ⟨S2x5000, .f32⟩
  | 103 => ⟨S2x5000, .f32⟩
  | 104 => ⟨S2x5000, .f32⟩
  | 105 => ⟨S_, .f32⟩
  | 106 => ⟨S2x5000, .f32⟩
  | 107 => ⟨S2x5000, .i1⟩
  | 108 => ⟨S_, .f32⟩
  | 109 => ⟨S_, .f32⟩
  | 110 => ⟨S2x5000, .f32⟩
  | 111 => ⟨S2x5000, .f32⟩
  | 112 => ⟨S1x2x6, .f32⟩
  | 113 => ⟨S_, .i32⟩
  | 114 => ⟨S_, .i32⟩
  | 115 => ⟨S100x2x6, .f32⟩
  | 116 => ⟨S_, .i32⟩
  | 117 => ⟨S_, .i32⟩
  | 118 => ⟨S2x100x6, .f32⟩
  | _ => ⟨S2x1620x48x48, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x1620x48x48, .f32⟩

abbrev bufTy : (tb : Table) → Fin (tcTables nBuf tb) → BufTy
  | .hbm, ⟨i, _⟩ => hbmTy i
  | _, _ => ⟨S2x1620x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_14 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_15 : Ref sig .tc := ⟨.hbm, 117, rfl⟩
abbrev main_v89 : Ref sig .tc := ⟨.hbm, 118, rfl⟩
abbrev main_cst_16 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_17 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_18 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_19 : Ref sig .tc := ⟨.hbm, 143, rfl⟩
abbrev main_v111 : Ref sig .tc := ⟨.hbm, 144, rfl⟩
abbrev main_cst_20 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_21 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_22 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_23 : Ref sig .tc := ⟨.hbm, 168, rfl⟩
abbrev main_v132 : Ref sig .tc := ⟨.hbm, 169, rfl⟩
abbrev main_cst_24 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_25 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_26 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_27 : Ref sig .tc := ⟨.hbm, 193, rfl⟩
abbrev main_v153 : Ref sig .tc := ⟨.hbm, 194, rfl⟩
abbrev main_cst_28 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_29 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_cst_30 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_31 : Ref sig .tc := ⟨.hbm, 218, rfl⟩
abbrev main_v174 : Ref sig .tc := ⟨.hbm, 219, rfl⟩
abbrev main_cst_32 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_cst_33 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_cst_34 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_cst_35 : Ref sig .tc := ⟨.hbm, 243, rfl⟩
abbrev main_v195 : Ref sig .tc := ⟨.hbm, 244, rfl⟩
abbrev main_cst_36 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_cst_37 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_cst_38 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_values : Ref sig .tc := ⟨.hbm, 265, rfl⟩
abbrev main_indices : Ref sig .tc := ⟨.hbm, 266, rfl⟩
abbrev main_c : Ref sig .tc := ⟨.hbm, 267, rfl⟩
abbrev main_call0_v0 : Ref sig .tc := ⟨.hbm, 268, rfl⟩
abbrev main_call0_v1 : Ref sig .tc := ⟨.hbm, 269, rfl⟩
abbrev main_call0_v2 : Ref sig .tc := ⟨.hbm, 270, rfl⟩
abbrev main_call0_v3 : Ref sig .tc := ⟨.hbm, 271, rfl⟩
abbrev main_call0_v4 : Ref sig .tc := ⟨.hbm, 272, rfl⟩
abbrev main_call0_v5 : Ref sig .tc := ⟨.hbm, 273, rfl⟩
abbrev main_call0_v6 : Ref sig .tc := ⟨.hbm, 274, rfl⟩
abbrev main_call0_v7 : Ref sig .tc := ⟨.hbm, 275, rfl⟩
abbrev main_call0_v8 : Ref sig .tc := ⟨.hbm, 276, rfl⟩
abbrev main_call0_c : Ref sig .tc := ⟨.hbm, 277, rfl⟩
abbrev main_call0_v9 : Ref sig .tc := ⟨.hbm, 278, rfl⟩
abbrev main_call0_v10 : Ref sig .tc := ⟨.hbm, 279, rfl⟩
abbrev main_call0_v11 : Ref sig .tc := ⟨.hbm, 280, rfl⟩
abbrev main_call0_c_0 : Ref sig .tc := ⟨.hbm, 281, rfl⟩
abbrev main_call0_v12 : Ref sig .tc := ⟨.hbm, 282, rfl⟩
abbrev main_call0_v13 : Ref sig .tc := ⟨.hbm, 283, rfl⟩
abbrev main_v213 : Ref sig .tc := ⟨.hbm, 284, rfl⟩
abbrev main_c_39 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_call1_c : Ref sig .tc := ⟨.hbm, 289, rfl⟩
abbrev main_call1_v0 : Ref sig .tc := ⟨.hbm, 290, rfl⟩
abbrev main_call1_v1 : Ref sig .tc := ⟨.hbm, 291, rfl⟩
abbrev main_call1_c_0 : Ref sig .tc := ⟨.hbm, 292, rfl⟩
abbrev main_call1_v2 : Ref sig .tc := ⟨.hbm, 293, rfl⟩
abbrev main_call1_v3 : Ref sig .tc := ⟨.hbm, 294, rfl⟩
abbrev main_call1_v4 : Ref sig .tc := ⟨.hbm, 295, rfl⟩
abbrev main_call1_c_1 : Ref sig .tc := ⟨.hbm, 296, rfl⟩
abbrev main_call1_c_2 : Ref sig .tc := ⟨.hbm, 297, rfl⟩
abbrev main_call1_v5 : Ref sig .tc := ⟨.hbm, 298, rfl⟩
abbrev main_call1_v6 : Ref sig .tc := ⟨.hbm, 299, rfl⟩
abbrev main_call1_v7 : Ref sig .tc := ⟨.hbm, 300, rfl⟩
abbrev main_call1_v8 : Ref sig .tc := ⟨.hbm, 301, rfl⟩
abbrev main_call1_v9 : Ref sig .tc := ⟨.hbm, 302, rfl⟩
abbrev main_call1_v10 : Ref sig .tc := ⟨.hbm, 303, rfl⟩
abbrev main_call1_c_3 : Ref sig .tc := ⟨.hbm, 304, rfl⟩
abbrev main_call1_v11 : Ref sig .tc := ⟨.hbm, 305, rfl⟩
abbrev main_call1_v12 : Ref sig .tc := ⟨.hbm, 306, rfl⟩
abbrev main_call1_v13 : Ref sig .tc := ⟨.hbm, 307, rfl⟩
abbrev main_call1_cst : Ref sig .tc := ⟨.hbm, 308, rfl⟩
abbrev main_call1_v14 : Ref sig .tc := ⟨.hbm, 309, rfl⟩
abbrev main_v217 : Ref sig .tc := ⟨.hbm, 310, rfl⟩
abbrev main_v218 : Ref sig .tc := ⟨.hbm, 311, rfl⟩
abbrev main_call2_c : Ref sig .tc := ⟨.hbm, 312, rfl⟩
abbrev main_call2_v0 : Ref sig .tc := ⟨.hbm, 313, rfl⟩
abbrev main_call2_v1 : Ref sig .tc := ⟨.hbm, 314, rfl⟩
abbrev main_call2_c_0 : Ref sig .tc := ⟨.hbm, 315, rfl⟩
abbrev main_call2_v2 : Ref sig .tc := ⟨.hbm, 316, rfl⟩
abbrev main_call2_v3 : Ref sig .tc := ⟨.hbm, 317, rfl⟩
abbrev main_call2_v4 : Ref sig .tc := ⟨.hbm, 318, rfl⟩
abbrev main_call2_c_1 : Ref sig .tc := ⟨.hbm, 319, rfl⟩
abbrev main_call2_c_2 : Ref sig .tc := ⟨.hbm, 320, rfl⟩
abbrev main_call2_v5 : Ref sig .tc := ⟨.hbm, 321, rfl⟩
abbrev main_call2_v6 : Ref sig .tc := ⟨.hbm, 322, rfl⟩
abbrev main_call2_v7 : Ref sig .tc := ⟨.hbm, 323, rfl⟩
abbrev main_call2_v8 : Ref sig .tc := ⟨.hbm, 324, rfl⟩
abbrev main_call2_v9 : Ref sig .tc := ⟨.hbm, 325, rfl⟩
abbrev main_call2_v10 : Ref sig .tc := ⟨.hbm, 326, rfl⟩
abbrev main_call2_c_3 : Ref sig .tc := ⟨.hbm, 327, rfl⟩
abbrev main_call2_v11 : Ref sig .tc := ⟨.hbm, 328, rfl⟩
abbrev main_call2_v12 : Ref sig .tc := ⟨.hbm, 329, rfl⟩
abbrev main_call2_v13 : Ref sig .tc := ⟨.hbm, 330, rfl⟩
abbrev main_call2_cst : Ref sig .tc := ⟨.hbm, 331, rfl⟩
abbrev main_call2_v14 : Ref sig .tc := ⟨.hbm, 332, rfl⟩
abbrev main_v219 : Ref sig .tc := ⟨.hbm, 333, rfl⟩
abbrev main_v220 : Ref sig .tc := ⟨.hbm, 334, rfl⟩
abbrev main_call3_c : Ref sig .tc := ⟨.hbm, 335, rfl⟩
abbrev main_call3_v0 : Ref sig .tc := ⟨.hbm, 336, rfl⟩
abbrev main_call3_v1 : Ref sig .tc := ⟨.hbm, 337, rfl⟩
abbrev main_call3_c_0 : Ref sig .tc := ⟨.hbm, 338, rfl⟩
abbrev main_call3_v2 : Ref sig .tc := ⟨.hbm, 339, rfl⟩
abbrev main_call3_v3 : Ref sig .tc := ⟨.hbm, 340, rfl⟩
abbrev main_call3_v4 : Ref sig .tc := ⟨.hbm, 341, rfl⟩
abbrev main_call3_v5 : Ref sig .tc := ⟨.hbm, 342, rfl⟩
abbrev main_call3_c_1 : Ref sig .tc := ⟨.hbm, 343, rfl⟩
abbrev main_call3_c_2 : Ref sig .tc := ⟨.hbm, 344, rfl⟩
abbrev main_call3_v6 : Ref sig .tc := ⟨.hbm, 345, rfl⟩
abbrev main_call3_v7 : Ref sig .tc := ⟨.hbm, 346, rfl⟩
abbrev main_call3_v8 : Ref sig .tc := ⟨.hbm, 347, rfl⟩
abbrev main_call3_v9 : Ref sig .tc := ⟨.hbm, 348, rfl⟩
abbrev main_call3_v10 : Ref sig .tc := ⟨.hbm, 349, rfl⟩
abbrev main_call3_v11 : Ref sig .tc := ⟨.hbm, 350, rfl⟩
abbrev main_call3_c_3 : Ref sig .tc := ⟨.hbm, 351, rfl⟩
abbrev main_call3_v12 : Ref sig .tc := ⟨.hbm, 352, rfl⟩
abbrev main_call3_v13 : Ref sig .tc := ⟨.hbm, 353, rfl⟩
abbrev main_call3_cst : Ref sig .tc := ⟨.hbm, 354, rfl⟩
abbrev main_call3_v14 : Ref sig .tc := ⟨.hbm, 355, rfl⟩
abbrev main_v221 : Ref sig .tc := ⟨.hbm, 356, rfl⟩
abbrev main_c_40 : Ref sig .tc := ⟨.hbm, 357, rfl⟩
abbrev main_v222 : Ref sig .tc := ⟨.hbm, 358, rfl⟩
abbrev main_v223 : Ref sig .tc := ⟨.hbm, 359, rfl⟩
abbrev main_c_41 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_v227 : Ref sig .tc := ⟨.hbm, 364, rfl⟩
abbrev main_v228 : Ref sig .tc := ⟨.hbm, 365, rfl⟩
abbrev main_v229 : Ref sig .tc := ⟨.hbm, 366, rfl⟩
abbrev main_v230 : Ref sig .tc := ⟨.hbm, 367, rfl⟩
abbrev main_v231 : Ref sig .tc := ⟨.hbm, 368, rfl⟩
abbrev main_v232 : Ref sig .tc := ⟨.hbm, 369, rfl⟩
abbrev main_v233 : Ref sig .tc := ⟨.hbm, 370, rfl⟩
abbrev main_cst_42 : Ref sig .tc := ⟨.hbm, 371, rfl⟩
abbrev main_v234 : Ref sig .tc := ⟨.hbm, 372, rfl⟩
abbrev main_v235 : Ref sig .tc := ⟨.hbm, 373, rfl⟩
abbrev main_v236 : Ref sig .tc := ⟨.hbm, 374, rfl⟩
abbrev main_v237 : Ref sig .tc := ⟨.hbm, 375, rfl⟩
abbrev main_v238 : Ref sig .tc := ⟨.hbm, 376, rfl⟩
abbrev main_v239 : Ref sig .tc := ⟨.hbm, 377, rfl⟩
abbrev main_v240 : Ref sig .tc := ⟨.hbm, 378, rfl⟩
abbrev main_cst_43 : Ref sig .tc := ⟨.hbm, 379, rfl⟩
abbrev main_v241 : Ref sig .tc := ⟨.hbm, 380, rfl⟩
abbrev main_v242 : Ref sig .tc := ⟨.hbm, 381, rfl⟩
abbrev main_v243 : Ref sig .tc := ⟨.hbm, 382, rfl⟩
abbrev main_v244 : Ref sig .tc := ⟨.hbm, 383, rfl⟩
abbrev main_v245 : Ref sig .tc := ⟨.hbm, 384, rfl⟩
abbrev main_v246 : Ref sig .tc := ⟨.hbm, 385, rfl⟩
abbrev main_v247 : Ref sig .tc := ⟨.hbm, 386, rfl⟩
abbrev main_v248 : Ref sig .tc := ⟨.hbm, 387, rfl⟩
abbrev main_v249 : Ref sig .tc := ⟨.hbm, 388, rfl⟩
abbrev main_v250 : Ref sig .tc := ⟨.hbm, 389, rfl⟩
abbrev main_v251 : Ref sig .tc := ⟨.hbm, 390, rfl⟩
abbrev main_v252 : Ref sig .tc := ⟨.hbm, 391, rfl⟩
abbrev main_v253 : Ref sig .tc := ⟨.hbm, 392, rfl⟩
abbrev main_v254 : Ref sig .tc := ⟨.hbm, 393, rfl⟩
abbrev main_v255 : Ref sig .tc := ⟨.hbm, 394, rfl⟩
abbrev main_v256 : Ref sig .tc := ⟨.hbm, 395, rfl⟩
abbrev main_v257 : Ref sig .tc := ⟨.hbm, 396, rfl⟩
abbrev main_v258 : Ref sig .tc := ⟨.hbm, 397, rfl⟩
abbrev main_v259 : Ref sig .tc := ⟨.hbm, 398, rfl⟩
abbrev main_v260 : Ref sig .tc := ⟨.hbm, 399, rfl⟩
abbrev main_v261 : Ref sig .tc := ⟨.hbm, 400, rfl⟩
abbrev main_v262 : Ref sig .tc := ⟨.hbm, 401, rfl⟩
abbrev main_v263 : Ref sig .tc := ⟨.hbm, 402, rfl⟩
abbrev main_v264 : Ref sig .tc := ⟨.hbm, 403, rfl⟩
abbrev main_v265 : Ref sig .tc := ⟨.hbm, 404, rfl⟩
abbrev main_v266 : Ref sig .tc := ⟨.hbm, 405, rfl⟩
abbrev main_v267 : Ref sig .tc := ⟨.hbm, 406, rfl⟩
abbrev main_v268 : Ref sig .tc := ⟨.hbm, 407, rfl⟩
abbrev main_cst_44 : Ref sig .tc := ⟨.hbm, 408, rfl⟩
abbrev main_v269 : Ref sig .tc := ⟨.hbm, 409, rfl⟩
abbrev main_v270 : Ref sig .tc := ⟨.hbm, 410, rfl⟩
abbrev main_v271 : Ref sig .tc := ⟨.hbm, 411, rfl⟩
abbrev main_cst_45 : Ref sig .tc := ⟨.hbm, 412, rfl⟩
abbrev main_v272 : Ref sig .tc := ⟨.hbm, 413, rfl⟩
abbrev main_v273 : Ref sig .tc := ⟨.hbm, 414, rfl⟩
abbrev main_v274 : Ref sig .tc := ⟨.hbm, 415, rfl⟩
abbrev main_cst_46 : Ref sig .tc := ⟨.hbm, 416, rfl⟩
abbrev main_v275 : Ref sig .tc := ⟨.hbm, 417, rfl⟩
abbrev main_v276 : Ref sig .tc := ⟨.hbm, 418, rfl⟩
abbrev main_v277 : Ref sig .tc := ⟨.hbm, 419, rfl⟩
abbrev main_cst_47 : Ref sig .tc := ⟨.hbm, 420, rfl⟩
abbrev main_v278 : Ref sig .tc := ⟨.hbm, 421, rfl⟩
abbrev main_v279 : Ref sig .tc := ⟨.hbm, 422, rfl⟩
abbrev main_v280 : Ref sig .tc := ⟨.hbm, 423, rfl⟩
abbrev main_v281 : Ref sig .tc := ⟨.hbm, 424, rfl⟩
abbrev main_v282 : Ref sig .tc := ⟨.hbm, 425, rfl⟩
abbrev main_v283 : Ref sig .tc := ⟨.hbm, 426, rfl⟩
abbrev main_v284 : Ref sig .tc := ⟨.hbm, 427, rfl⟩
abbrev main_v285 : Ref sig .tc := ⟨.hbm, 428, rfl⟩
abbrev main_v286 : Ref sig .tc := ⟨.hbm, 429, rfl⟩
abbrev main_v287 : Ref sig .tc := ⟨.hbm, 430, rfl⟩
abbrev main_v288 : Ref sig .tc := ⟨.hbm, 431, rfl⟩
abbrev main_cst_48 : Ref sig .tc := ⟨.hbm, 432, rfl⟩
abbrev main_v289 : Ref sig .tc := ⟨.hbm, 433, rfl⟩
abbrev main_v290 : Ref sig .tc := ⟨.hbm, 434, rfl⟩
abbrev main_cst_49 : Ref sig .tc := ⟨.hbm, 435, rfl⟩
abbrev main_v291 : Ref sig .tc := ⟨.hbm, 436, rfl⟩
abbrev main_v292 : Ref sig .tc := ⟨.hbm, 437, rfl⟩
abbrev main_cst_50 : Ref sig .tc := ⟨.hbm, 438, rfl⟩
abbrev main_v293 : Ref sig .tc := ⟨.hbm, 439, rfl⟩
abbrev main_v294 : Ref sig .tc := ⟨.hbm, 440, rfl⟩
abbrev main_cst_51 : Ref sig .tc := ⟨.hbm, 441, rfl⟩
abbrev main_v295 : Ref sig .tc := ⟨.hbm, 442, rfl⟩
abbrev main_v296 : Ref sig .tc := ⟨.hbm, 443, rfl⟩
abbrev main_v297 : Ref sig .tc := ⟨.hbm, 444, rfl⟩
abbrev main_v298 : Ref sig .tc := ⟨.hbm, 445, rfl⟩
abbrev main_v299 : Ref sig .tc := ⟨.hbm, 446, rfl⟩
abbrev main_v300 : Ref sig .tc := ⟨.hbm, 447, rfl⟩
abbrev main_v301 : Ref sig .tc := ⟨.hbm, 448, rfl⟩
abbrev main_v302 : Ref sig .tc := ⟨.hbm, 449, rfl⟩
abbrev main_cst_52 : Ref sig .tc := ⟨.hbm, 450, rfl⟩
abbrev main_v303 : Ref sig .tc := ⟨.hbm, 451, rfl⟩
abbrev main_c_53 : Ref sig .tc := ⟨.hbm, 452, rfl⟩
abbrev main_v304_0 : Ref sig .tc := ⟨.hbm, 453, rfl⟩
abbrev main_v304_1 : Ref sig .tc := ⟨.hbm, 454, rfl⟩
abbrev main_v304_2 : Ref sig .tc := ⟨.hbm, 455, rfl⟩
abbrev main_v304_3 : Ref sig .tc := ⟨.hbm, 456, rfl⟩
abbrev main_v304_4 : Ref sig .tc := ⟨.hbm, 457, rfl⟩
abbrev main_v304_5 : Ref sig .tc := ⟨.hbm, 458, rfl⟩
abbrev main_v304_6 : Ref sig .tc := ⟨.hbm, 459, rfl⟩
abbrev main_while0c_c_60 : Ref sig .tc := ⟨.hbm, 460, rfl⟩
abbrev main_while0c_v306 : Ref sig .tc := ⟨.hbm, 461, rfl⟩
abbrev main_while0b_values_60 : Ref sig .tc := ⟨.hbm, 462, rfl⟩
abbrev main_while0b_indices_61 : Ref sig .tc := ⟨.hbm, 463, rfl⟩
abbrev main_while0b_call4_c : Ref sig .tc := ⟨.hbm, 464, rfl⟩
abbrev main_while0b_call4_v0 : Ref sig .tc := ⟨.hbm, 465, rfl⟩
abbrev main_while0b_call4_v1 : Ref sig .tc := ⟨.hbm, 466, rfl⟩
abbrev main_while0b_call4_c_0 : Ref sig .tc := ⟨.hbm, 467, rfl⟩
abbrev main_while0b_call4_v2 : Ref sig .tc := ⟨.hbm, 468, rfl⟩
abbrev main_while0b_call4_v3 : Ref sig .tc := ⟨.hbm, 469, rfl⟩
abbrev main_while0b_call4_v4 : Ref sig .tc := ⟨.hbm, 470, rfl⟩
abbrev main_while0b_call4_v5 : Ref sig .tc := ⟨.hbm, 471, rfl⟩
abbrev main_while0b_call4_c_1 : Ref sig .tc := ⟨.hbm, 472, rfl⟩
abbrev main_while0b_call4_c_2 : Ref sig .tc := ⟨.hbm, 473, rfl⟩
abbrev main_while0b_call4_v6 : Ref sig .tc := ⟨.hbm, 474, rfl⟩
abbrev main_while0b_call4_v7 : Ref sig .tc := ⟨.hbm, 475, rfl⟩
abbrev main_while0b_call4_v8 : Ref sig .tc := ⟨.hbm, 476, rfl⟩
abbrev main_while0b_call4_v9 : Ref sig .tc := ⟨.hbm, 477, rfl⟩
abbrev main_while0b_call4_v10 : Ref sig .tc := ⟨.hbm, 478, rfl⟩
abbrev main_while0b_call4_v11 : Ref sig .tc := ⟨.hbm, 479, rfl⟩
abbrev main_while0b_call4_c_3 : Ref sig .tc := ⟨.hbm, 480, rfl⟩
abbrev main_while0b_call4_v12 : Ref sig .tc := ⟨.hbm, 481, rfl⟩
abbrev main_while0b_call4_v13 : Ref sig .tc := ⟨.hbm, 482, rfl⟩
abbrev main_while0b_call4_cst : Ref sig .tc := ⟨.hbm, 483, rfl⟩
abbrev main_while0b_call4_v14 : Ref sig .tc := ⟨.hbm, 484, rfl⟩
abbrev main_while0b_v306 : Ref sig .tc := ⟨.hbm, 485, rfl⟩
abbrev main_while0b_v307 : Ref sig .tc := ⟨.hbm, 486, rfl⟩
abbrev main_while0b_call5_c : Ref sig .tc := ⟨.hbm, 487, rfl⟩
abbrev main_while0b_call5_v0 : Ref sig .tc := ⟨.hbm, 488, rfl⟩
abbrev main_while0b_call5_v1 : Ref sig .tc := ⟨.hbm, 489, rfl⟩
abbrev main_while0b_call5_c_0 : Ref sig .tc := ⟨.hbm, 490, rfl⟩
abbrev main_while0b_call5_v2 : Ref sig .tc := ⟨.hbm, 491, rfl⟩
abbrev main_while0b_call5_v3 : Ref sig .tc := ⟨.hbm, 492, rfl⟩
abbrev main_while0b_call5_v4 : Ref sig .tc := ⟨.hbm, 493, rfl⟩
abbrev main_while0b_call5_c_1 : Ref sig .tc := ⟨.hbm, 494, rfl⟩
abbrev main_while0b_call5_c_2 : Ref sig .tc := ⟨.hbm, 495, rfl⟩
abbrev main_while0b_call5_v5 : Ref sig .tc := ⟨.hbm, 496, rfl⟩
abbrev main_while0b_call5_v6 : Ref sig .tc := ⟨.hbm, 497, rfl⟩
abbrev main_while0b_call5_v7 : Ref sig .tc := ⟨.hbm, 498, rfl⟩
abbrev main_while0b_call5_v8 : Ref sig .tc := ⟨.hbm, 499, rfl⟩
abbrev main_while0b_call5_v9 : Ref sig .tc := ⟨.hbm, 500, rfl⟩
abbrev main_while0b_call5_v10 : Ref sig .tc := ⟨.hbm, 501, rfl⟩
abbrev main_while0b_call5_c_3 : Ref sig .tc := ⟨.hbm, 502, rfl⟩
abbrev main_while0b_call5_v11 : Ref sig .tc := ⟨.hbm, 503, rfl⟩
abbrev main_while0b_call5_v12 : Ref sig .tc := ⟨.hbm, 504, rfl⟩
abbrev main_while0b_call5_v13 : Ref sig .tc := ⟨.hbm, 505, rfl⟩
abbrev main_while0b_call5_cst : Ref sig .tc := ⟨.hbm, 506, rfl⟩
abbrev main_while0b_call5_v14 : Ref sig .tc := ⟨.hbm, 507, rfl⟩
abbrev main_while0b_v308 : Ref sig .tc := ⟨.hbm, 508, rfl⟩
abbrev main_while0b_v309 : Ref sig .tc := ⟨.hbm, 509, rfl⟩
abbrev main_while0b_call6_c : Ref sig .tc := ⟨.hbm, 510, rfl⟩
abbrev main_while0b_call6_v0 : Ref sig .tc := ⟨.hbm, 511, rfl⟩
abbrev main_while0b_call6_v1 : Ref sig .tc := ⟨.hbm, 512, rfl⟩
abbrev main_while0b_call6_c_0 : Ref sig .tc := ⟨.hbm, 513, rfl⟩
abbrev main_while0b_call6_v2 : Ref sig .tc := ⟨.hbm, 514, rfl⟩
abbrev main_while0b_call6_v3 : Ref sig .tc := ⟨.hbm, 515, rfl⟩
abbrev main_while0b_call6_v4 : Ref sig .tc := ⟨.hbm, 516, rfl⟩
abbrev main_while0b_call6_v5 : Ref sig .tc := ⟨.hbm, 517, rfl⟩
abbrev main_while0b_call6_c_1 : Ref sig .tc := ⟨.hbm, 518, rfl⟩
abbrev main_while0b_call6_c_2 : Ref sig .tc := ⟨.hbm, 519, rfl⟩
abbrev main_while0b_call6_v6 : Ref sig .tc := ⟨.hbm, 520, rfl⟩
abbrev main_while0b_call6_v7 : Ref sig .tc := ⟨.hbm, 521, rfl⟩
abbrev main_while0b_call6_v8 : Ref sig .tc := ⟨.hbm, 522, rfl⟩
abbrev main_while0b_call6_v9 : Ref sig .tc := ⟨.hbm, 523, rfl⟩
abbrev main_while0b_call6_v10 : Ref sig .tc := ⟨.hbm, 524, rfl⟩
abbrev main_while0b_call6_v11 : Ref sig .tc := ⟨.hbm, 525, rfl⟩
abbrev main_while0b_call6_c_3 : Ref sig .tc := ⟨.hbm, 526, rfl⟩
abbrev main_while0b_call6_v12 : Ref sig .tc := ⟨.hbm, 527, rfl⟩
abbrev main_while0b_call6_v13 : Ref sig .tc := ⟨.hbm, 528, rfl⟩
abbrev main_while0b_call6_c_4 : Ref sig .tc := ⟨.hbm, 529, rfl⟩
abbrev main_while0b_call6_v14 : Ref sig .tc := ⟨.hbm, 530, rfl⟩
abbrev main_while0b_v310 : Ref sig .tc := ⟨.hbm, 531, rfl⟩
abbrev main_while0b_v311 : Ref sig .tc := ⟨.hbm, 532, rfl⟩
abbrev main_while0b_v312 : Ref sig .tc := ⟨.hbm, 533, rfl⟩
abbrev main_while0b_v313 : Ref sig .tc := ⟨.hbm, 534, rfl⟩
abbrev main_while0b_c_62 : Ref sig .tc := ⟨.hbm, 535, rfl⟩
abbrev main_while0b_v314 : Ref sig .tc := ⟨.hbm, 536, rfl⟩
abbrev main_while0b_v315 : Ref sig .tc := ⟨.hbm, 537, rfl⟩
abbrev main_while0b_v316 : Ref sig .tc := ⟨.hbm, 538, rfl⟩
abbrev main_while0b_v317 : Ref sig .tc := ⟨.hbm, 539, rfl⟩
abbrev main_while0b_cst_63 : Ref sig .tc := ⟨.hbm, 540, rfl⟩
abbrev main_while0b_v318 : Ref sig .tc := ⟨.hbm, 541, rfl⟩
abbrev main_while0b_v319 : Ref sig .tc := ⟨.hbm, 542, rfl⟩
abbrev main_while0b_cst_64 : Ref sig .tc := ⟨.hbm, 543, rfl⟩
abbrev main_while0b_v320 : Ref sig .tc := ⟨.hbm, 544, rfl⟩
abbrev main_while0b_call7_v0 : Ref sig .tc := ⟨.hbm, 545, rfl⟩
abbrev main_while0b_v321 : Ref sig .tc := ⟨.hbm, 546, rfl⟩
abbrev main_while0b_v322 : Ref sig .tc := ⟨.hbm, 547, rfl⟩
abbrev main_while0b_call8_c : Ref sig .tc := ⟨.hbm, 548, rfl⟩
abbrev main_while0b_call8_v0 : Ref sig .tc := ⟨.hbm, 549, rfl⟩
abbrev main_while0b_call8_v1 : Ref sig .tc := ⟨.hbm, 550, rfl⟩
abbrev main_while0b_call8_c_0 : Ref sig .tc := ⟨.hbm, 551, rfl⟩
abbrev main_while0b_call8_v2 : Ref sig .tc := ⟨.hbm, 552, rfl⟩
abbrev main_while0b_call8_v3 : Ref sig .tc := ⟨.hbm, 553, rfl⟩
abbrev main_while0b_call8_v4 : Ref sig .tc := ⟨.hbm, 554, rfl⟩
abbrev main_while0b_call8_c_1 : Ref sig .tc := ⟨.hbm, 555, rfl⟩
abbrev main_while0b_call8_c_2 : Ref sig .tc := ⟨.hbm, 556, rfl⟩
abbrev main_while0b_call8_v5 : Ref sig .tc := ⟨.hbm, 557, rfl⟩
abbrev main_while0b_call8_v6 : Ref sig .tc := ⟨.hbm, 558, rfl⟩
abbrev main_while0b_call8_v7 : Ref sig .tc := ⟨.hbm, 559, rfl⟩
abbrev main_while0b_call8_v8 : Ref sig .tc := ⟨.hbm, 560, rfl⟩
abbrev main_while0b_call8_v9 : Ref sig .tc := ⟨.hbm, 561, rfl⟩
abbrev main_while0b_call8_v10 : Ref sig .tc := ⟨.hbm, 562, rfl⟩
abbrev main_while0b_call8_c_3 : Ref sig .tc := ⟨.hbm, 563, rfl⟩
abbrev main_while0b_call8_v11 : Ref sig .tc := ⟨.hbm, 564, rfl⟩
abbrev main_while0b_call8_v12 : Ref sig .tc := ⟨.hbm, 565, rfl⟩
abbrev main_while0b_call8_v13 : Ref sig .tc := ⟨.hbm, 566, rfl⟩
abbrev main_while0b_call8_cst : Ref sig .tc := ⟨.hbm, 567, rfl⟩
abbrev main_while0b_call8_v14 : Ref sig .tc := ⟨.hbm, 568, rfl⟩
abbrev main_while0b_v323 : Ref sig .tc := ⟨.hbm, 569, rfl⟩
abbrev main_while0b_v324 : Ref sig .tc := ⟨.hbm, 570, rfl⟩
abbrev main_while0b_v325 : Ref sig .tc := ⟨.hbm, 571, rfl⟩
abbrev main_while0b_v326 : Ref sig .tc := ⟨.hbm, 572, rfl⟩
abbrev main_while0b_v327 : Ref sig .tc := ⟨.hbm, 573, rfl⟩
abbrev main_while0b_v328 : Ref sig .tc := ⟨.hbm, 574, rfl⟩
abbrev main_while0b_v329 : Ref sig .tc := ⟨.hbm, 575, rfl⟩
abbrev main_while0b_v330 : Ref sig .tc := ⟨.hbm, 576, rfl⟩
abbrev main_while0b_v331 : Ref sig .tc := ⟨.hbm, 577, rfl⟩
abbrev main_while0b_v332 : Ref sig .tc := ⟨.hbm, 578, rfl⟩
abbrev main_while0b_v333 : Ref sig .tc := ⟨.hbm, 579, rfl⟩
abbrev main_while0b_v334 : Ref sig .tc := ⟨.hbm, 580, rfl⟩
abbrev main_while0b_v335 : Ref sig .tc := ⟨.hbm, 581, rfl⟩
abbrev main_while0b_v336 : Ref sig .tc := ⟨.hbm, 582, rfl⟩
abbrev main_while0b_v337 : Ref sig .tc := ⟨.hbm, 583, rfl⟩
abbrev main_while0b_v338 : Ref sig .tc := ⟨.hbm, 584, rfl⟩
abbrev main_while0b_v339 : Ref sig .tc := ⟨.hbm, 585, rfl⟩
abbrev main_while0b_v340 : Ref sig .tc := ⟨.hbm, 586, rfl⟩
abbrev main_while0b_v341 : Ref sig .tc := ⟨.hbm, 587, rfl⟩
abbrev main_while0b_v342 : Ref sig .tc := ⟨.hbm, 588, rfl⟩
abbrev main_while0b_v343 : Ref sig .tc := ⟨.hbm, 589, rfl⟩
abbrev main_while0b_v344 : Ref sig .tc := ⟨.hbm, 590, rfl⟩
abbrev main_while0b_v345 : Ref sig .tc := ⟨.hbm, 591, rfl⟩
abbrev main_while0b_v346 : Ref sig .tc := ⟨.hbm, 592, rfl⟩
abbrev main_while0b_v347 : Ref sig .tc := ⟨.hbm, 593, rfl⟩
abbrev main_while0b_v348 : Ref sig .tc := ⟨.hbm, 594, rfl⟩
abbrev main_while0b_v349 : Ref sig .tc := ⟨.hbm, 595, rfl⟩
abbrev main_while0b_v350 : Ref sig .tc := ⟨.hbm, 596, rfl⟩
abbrev main_while0b_v351 : Ref sig .tc := ⟨.hbm, 597, rfl⟩
abbrev main_while0b_v352 : Ref sig .tc := ⟨.hbm, 598, rfl⟩
abbrev main_while0b_v353 : Ref sig .tc := ⟨.hbm, 599, rfl⟩
abbrev main_while0b_v354 : Ref sig .tc := ⟨.hbm, 600, rfl⟩
abbrev main_while0b_cst_65 : Ref sig .tc := ⟨.hbm, 601, rfl⟩
abbrev main_while0b_call9_v0 : Ref sig .tc := ⟨.hbm, 602, rfl⟩
abbrev main_while0b_call9_v1 : Ref sig .tc := ⟨.hbm, 603, rfl⟩
abbrev main_while0b_v355 : Ref sig .tc := ⟨.hbm, 604, rfl⟩
abbrev main_while0b_v356 : Ref sig .tc := ⟨.hbm, 605, rfl⟩
abbrev main_while0b_v357 : Ref sig .tc := ⟨.hbm, 606, rfl⟩
abbrev main_while0b_v358 : Ref sig .tc := ⟨.hbm, 607, rfl⟩
abbrev main_while0b_v359 : Ref sig .tc := ⟨.hbm, 608, rfl⟩
abbrev main_while0b_v360 : Ref sig .tc := ⟨.hbm, 609, rfl⟩
abbrev main_while0b_v361 : Ref sig .tc := ⟨.hbm, 610, rfl⟩
abbrev main_while0b_v362 : Ref sig .tc := ⟨.hbm, 611, rfl⟩
abbrev main_while0b_v363 : Ref sig .tc := ⟨.hbm, 612, rfl⟩
abbrev main_while0b_cst_66 : Ref sig .tc := ⟨.hbm, 613, rfl⟩
abbrev main_while0b_v364 : Ref sig .tc := ⟨.hbm, 614, rfl⟩
abbrev main_while0b_v365 : Ref sig .tc := ⟨.hbm, 615, rfl⟩
abbrev main_while0b_v366 : Ref sig .tc := ⟨.hbm, 616, rfl⟩
abbrev main_while0b_cst_67 : Ref sig .tc := ⟨.hbm, 617, rfl⟩
abbrev main_while0b_v367 : Ref sig .tc := ⟨.hbm, 618, rfl⟩
abbrev main_while0b_v368 : Ref sig .tc := ⟨.hbm, 619, rfl⟩
abbrev main_while0b_cst_68 : Ref sig .tc := ⟨.hbm, 620, rfl⟩
abbrev main_while0b_call10_v0 : Ref sig .tc := ⟨.hbm, 621, rfl⟩
abbrev main_while0b_call10_v1 : Ref sig .tc := ⟨.hbm, 622, rfl⟩
abbrev main_while0b_v369 : Ref sig .tc := ⟨.hbm, 623, rfl⟩
abbrev main_while0b_call11_v0 : Ref sig .tc := ⟨.hbm, 624, rfl⟩
abbrev main_while0b_call11_c : Ref sig .tc := ⟨.hbm, 625, rfl⟩
abbrev main_while0b_call11_c_0 : Ref sig .tc := ⟨.hbm, 626, rfl⟩
abbrev main_while0b_v370 : Ref sig .tc := ⟨.hbm, 627, rfl⟩
abbrev main_while0b_c_69 : Ref sig .tc := ⟨.hbm, 628, rfl⟩
abbrev main_while0b_v371 : Ref sig .tc := ⟨.hbm, 629, rfl⟩
abbrev main_v305 : Ref sig .tc := ⟨.hbm, 630, rfl⟩

abbrev nD : Nat := 1
abbrev τ : Topo := Topo.v7x

variable {F : FTy → Type} [FloatOps F]

abbrev main_while0_count : Scf.Loop 32 := ⟨0#32, 100#32, 1#32⟩
-- ==== Proof.Trip.lean ====
/- What the kernel's hundred trips leave in its two buffers. A trip's stores are the generated `trip_k0_t1`'s; here they are written
   as functions of the eleven planes the scratch holds, so that the contents before trip `k` are a recursion on the planes. -/
module

public import proofs.«01_k».proof.Proof.Gen.KernelIdeal.Loops
public import Idealize.ShloMosaic.Lib.ValueIdxCore

@[expose] public section

set_option maxRecDepth 8192

noncomputable section

namespace Cert.KernelIdeal.Nms

open Idealize.ShloMosaic Idealize.ShloMosaic.TcCoe Idealize.ShloMosaic.Tactic Idealize.ShloMosaic.ValueIdx
open Cert.KernelIdeal Cert.KernelIdeal.Gen

variable {F : FTy → Type} [FloatOps F] [Named F]

/-- The eleven planes of the scratch, as the kernel loads them. -/
abbrev Planes (F : FTy → Type) := Fin 11 → Vec F S1x40x128 .f32

theorem plane_inb (p : Fin 11) : ∀ a : Fin S11x40x128.rank, (![p.val, 0, 0] : Fin 3 → ℕ) a + S1x40x128.size a ≤ S11x40x128.size a := by
  intro a; fin_cases a <;> simp [S11x40x128, S1x40x128] <;> omega

/-- The box of plane `p`. -/
abbrev planeRect (p : Fin 11) : Rect S11x40x128 := Rect.unit (s := S11x40x128) ![p.val, 0, 0] S1x40x128.size (plane_inb p)

/-- The planes that the contents `f` hold. -/
def planesOf (arg3 : Memref sig .tc .vmem S11x40x128 .f32) (f : BufTy.Contents (Elt F) arg3.view.ty) : Planes F :=
  fun p => arg3.view.readAt (Elt F) (planeRect p).toLoadRect f

/-- The indicator of the picked lane. -/
abbrev pick (v26 : IVec S40x128 32) (q : Planes F) : FVec F S40x128 .f32 := k0_pay3 v26 (q 0)

/-- The scores after one trip, as stored. -/
def newScores (v26 : IVec S40x128 32) (q : Planes F) : FVec F S1x40x128 .f32 :=
  k0_pay16 (k0_pay2 (q 0)) (k0_pay14 (pick v26 q) (q 10))
    (k0_pay15 (pick v26 q) (k0_pay11 (pick v26 q) (q 6)) (k0_pay12 (pick v26 q) (q 7)) (k0_pay13 (pick v26 q) (q 8)) (q 9) (q 6) (q 7) (q 8) (q 9)) (q 10)

/-- The row one trip stores. -/
def row (v21 : F .f32) (v26 : IVec S40x128 32) (v130 : IVec S1x128 32) (q : Planes F) : FVec F S1x1x128 .f32 :=
  k0_pay1 v130 (Scalar.cmpf .ogt (k0_pay4 v26 (q 0)) (Scalar.ofBits .f32 0xC59C4000#32)) (k0_pay17 (k0_pay5 v26 (q 0) (q 1)))
    (k0_pay18 v21 v130 (k0_pay4 v26 (q 0)) (k0_pay6 v26 (q 0) (q 2)) (k0_pay8 (k0_pay7 v26 (q 0) (q 3))) (k0_pay9 (pick v26 q) (q 4)) (k0_pay10 (pick v26 q) (q 5)))
    k0_pay19

/-- The planes before trip `k`, of those before the first: only the scores' plane changes. -/
def planesAt (v26 : IVec S40x128 32) (q : Planes F) : ℕ → Planes F
  | 0 => q
  | k + 1 => Function.update (planesAt v26 q k) 0 (newScores v26 (planesAt v26 q k))

section
variable (𝒱 : Variants) (c : Dev nD) (bd : Option 𝒱.V) (i : grid0.Coords) (arg1 : Memref sig .tc .vmem S1x11x40x128 .f32) (harg1 : arg1.IsWhole) (arg2 : Memref sig .tc .vmem S1x100x128 .f32) (harg2 : arg2.IsWhole) (arg3 : Memref sig .tc .vmem S11x40x128 .f32) (harg3 : arg3.IsWhole) (v21 : F .f32) (v26 : IVec S40x128 32) (v130 : IVec S1x128 32) (c0_i32 : BitVec 32)
variable (k : Fin k0_t1_loop.trips) (f2 : BufTy.Contents (Elt F) arg2.view.ty) (f3 : BufTy.Contents (Elt F) arg3.view.ty)

/-- Trip `k` stores the new scores over plane 0, -/
theorem trip_scores : (trip_k0_t1 (F := F) 𝒱 c bd i arg1 harg1 arg2 harg2 arg3 harg3 v21 v26 v130 c0_i32 k).2.1 f2 f3
    = [⟨planeRect 0, newScores v26 (planesOf arg3 f3)⟩] := by
  unfold trip_k0_t1
  rfl

/-- and its row into the output. -/
theorem trip_row : (trip_k0_t1 (F := F) 𝒱 c bd i arg1 harg1 arg2 harg2 arg3 harg3 v21 v26 v130 c0_i32 k).1 f2 f3
    = [⟨Rect.unit (s := S1x100x128) (k0_off1 k) S1x1x128.size (k0_off1_inb k), row v21 v26 v130 (planesOf arg3 f3)⟩] := by
  unfold trip_k0_t1
  rfl

/-- Writing one plane changes that plane only. -/
theorem planesOf_write (r : Fin 11) (w : FVec F S1x40x128 .f32) (L : List (View.Piece (Elt F) S11x40x128 .f32)) :
    planesOf arg3 (arg3.view.writes (Elt F) f3 (⟨planeRect r, w⟩ :: L)) = Function.update (planesOf arg3 (arg3.view.writes (Elt F) f3 L)) r w := by
  funext p x
  show View.read (Elt F) arg3.view _ ((planeRect p).emb x) = _
  by_cases hp : p = r
  · subst hp
    rw [Function.update_self]
    exact View.read_writes_cons_emb arg3.view f3 (planeRect p) w L x
  · rw [Function.update_of_ne hp]
    have hp' : p.val ≠ r.val := fun h => hp (Fin.ext h)
    have hx : (x 0).val = 0 := Nat.lt_one_iff.mp (x 0).isLt
    refine View.read_writes_cons_miss_of_axis arg3.view f3 ⟨planeRect r, w⟩ L ((planeRect p).emb x) 0 r.val 1 rfl rfl rfl ?_
    show p.val + 1 * (x 0).val < r.val ∨ r.val + 1 ≤ p.val + 1 * (x 0).val
    omega

/-- The eleven stores before the loop leave the planes they store. -/
theorem planesOf_stores (q : Planes F) (L : List (View.Piece (Elt F) S11x40x128 .f32))
    (hL : L = [⟨planeRect 10, q 10⟩, ⟨planeRect 9, q 9⟩, ⟨planeRect 8, q 8⟩, ⟨planeRect 7, q 7⟩, ⟨planeRect 6, q 6⟩, ⟨planeRect 5, q 5⟩,
      ⟨planeRect 4, q 4⟩, ⟨planeRect 3, q 3⟩, ⟨planeRect 2, q 2⟩, ⟨planeRect 1, q 1⟩, ⟨planeRect 0, q 0⟩]) :
    planesOf arg3 (arg3.view.writes (Elt F) f3 L) = q := by
  subst hL
  simp only [planesOf_write]
  funext p
  fin_cases p <;> rfl

/-- Before trip `k` the scratch holds `planesAt k`, and the output's rows below `k` hold the rows of the trips that stored them. -/
theorem pieces_before (q : Planes F) (G2 : BufTy.Contents (Elt F) arg2.view.ty) (G3 : BufTy.Contents (Elt F) arg3.view.ty) (hq : planesOf arg3 G3 = q) :
    ∀ k : ℕ, k ≤ 100 →
      planesOf arg3 (arg3.view.writes (Elt F) G3 (pb_k0_t1 (F := F) 𝒱 c bd i arg1 harg1 arg2 harg2 arg3 harg3 v21 v26 v130 c0_i32 G2 G3 k).2) = planesAt v26 q k
      ∧ ∀ y : S1x100x128.Idx, (y 1).val < k →
          arg2.view.read (Elt F) (arg2.view.writes (Elt F) G2 (pb_k0_t1 (F := F) 𝒱 c bd i arg1 harg1 arg2 harg2 arg3 harg3 v21 v26 v130 c0_i32 G2 G3 k).1) y
            = row v21 v26 v130 (planesAt v26 q (y 1).val) (ix3 (n0 := 1) (n1 := 1) (n2 := 128) 0 0 (y 2))
  | 0, _ => ⟨hq, fun y hy => absurd hy (Nat.not_lt_zero _)⟩
  | k + 1, hk => by
    obtain ⟨h3, h2⟩ := pieces_before q G2 G3 hq k (Nat.le_of_succ_le hk)
    have ht : k0_t1_loop.trips = 100 := by decide
    have e := pb_k0_t1_succ (F := F) 𝒱 c bd i arg1 harg1 arg2 harg2 arg3 harg3 v21 v26 v130 c0_i32 G2 G3 ⟨k, ht ▸ hk⟩
    unfold tripL_k0_t1 at e
    simp only [trip_scores, trip_row, h3] at e
    rw [e]
    refine ⟨?_, fun y hy => ?_⟩
    · dsimp only
      rw [View.writes_append, planesOf_write, View.writes_nil, h3]
      rfl
    · dsimp only
      rw [View.writes_append]
      by_cases hyk : (y 1).val = k
      · have ho : k0_off1 ⟨k, ht ▸ hk⟩ = ![0, k, 0] := k0_off1_eq _
        refine (View.read_writes_cons_hit_of_coords arg2.view _ (Rect.unit (s := S1x100x128) (k0_off1 ⟨k, ht ▸ hk⟩) S1x1x128.size (k0_off1_inb _)) _ []
          (ix3 (n0 := 1) (n1 := 1) (n2 := 128) 0 0 (y 2)) y ?_).trans ?_
        · intro a
          have e0 : (y 0).val = 0 := Nat.lt_one_iff.mp (y 0).isLt
          match a with
          | ⟨0, _⟩ => show (y 0).val = k0_off1 ⟨k, ht ▸ hk⟩ 0 + 1 * 0; rw [ho]; exact e0
          | ⟨1, _⟩ => show (y 1).val = k0_off1 ⟨k, ht ▸ hk⟩ 1 + 1 * 0; rw [ho]; exact hyk
          | ⟨2, _⟩ => show (y 2).val = k0_off1 ⟨k, ht ▸ hk⟩ 2 + 1 * (y 2).val; rw [ho]; show _ = 0 + _; omega
        · rw [hyk]
      · have ho : k0_off1 ⟨k, ht ▸ hk⟩ 1 = k := by rw [k0_off1_eq]; rfl
        exact (View.read_writes_cons_miss_of_axis arg2.view _ _ [] y 1 k 1 ho rfl rfl (Or.inl (by omega))).trans (h2 y (by omega))

end

end Cert.KernelIdeal.Nms
-- ==== Proof.KBody.lean ====
/- The kernel body at one grid point: from the block's eleven planes it leaves the hundred rows in the output's block. -/
module

public import proofs.«01_k».proof.Proof.Trip
public import Idealize.ShloMosaic.Lib.WholeRead
public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Nms

open Idealize.ShloMosaic Idealize.ShloMosaic.TcCoe Idealize.ShloMosaic.Tactic
open Cert.KernelIdeal Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Plane `p` of a grid point's block, as the kernel loads it. -/
def blockPlane (x0 : Vec F S1x11x40x128 .f32) (p : Fin 10) : Vec F S1x1x40x128 .f32 := fun y => x0 (ix4 (n0 := 1) (n1 := 11) (n2 := 40) (n3 := 128) 0 p.castSucc (y 2) (y 3))

/-- The planes the scratch holds when the loop begins, of the block's first ten planes. -/
def initPlanes (b : Fin 10 → Vec F S1x1x40x128 .f32) : Planes F := fun p =>
  have v49 : FVec F S40x128 .f32 := k0_pay39 (k0_pay21 (b 1)) (k0_pay23 (b 3)) (k0_pay25 (b 5)) (k0_pay27 (b 7))
  have v54 : FVec F S40x128 .f32 := k0_pay40 (k0_pay20 (b 0)) (k0_pay22 (b 2)) (k0_pay24 (b 4)) (k0_pay26 (b 6))
  have v59 : FVec F S40x128 .f32 := k0_pay41 (k0_pay21 (b 1)) (k0_pay23 (b 3)) (k0_pay25 (b 5)) (k0_pay27 (b 7))
  have v62 : FVec F S40x128 .f32 := k0_pay42 (k0_pay20 (b 0)) (k0_pay22 (b 2)) (k0_pay24 (b 4)) (k0_pay26 (b 6))
  have v19 : FVec F S40x128 .f32 := k0_pay29 (b 9)
  have neg : F .f32 := Named.named κ "neg" 0xF149F2CA#32
  match p with
  | 0 => k0_pay50 (k0_pay28 (b 8)) k0_pay32
  | 1 => k0_pay51 v19
  | 2 => k0_pay52 v49
  | 3 => k0_pay53 v54
  | 4 => k0_pay54 v59
  | 5 => k0_pay55 (k0_pay43 k0_pay32 v62 neg)
  | 6 => k0_pay56 (k0_pay45 v19 k0_pay32 v49 v54 v59 v62 neg)
  | 7 => k0_pay57 (k0_pay46 v19 k0_pay32 v49 v54 v59 v62 neg)
  | 8 => k0_pay58 (k0_pay47 v19 k0_pay32 v49 v54 v59 v62 neg)
  | 9 => k0_pay59 (k0_pay48 v19 k0_pay32 v49 v54 v59 v62 neg)
  | 10 => k0_pay60 (k0_pay49 v19 k0_pay32 v49 v54 v59 v62 neg)

/-- The numbers of the lanes of a row. -/
abbrev lanes : IVec S1x128 32 := iota .tc S1x128 32 [1] iota_S1x128_d1_w32

/-- What the body leaves in the output's block: row `k` is the row of trip `k`. -/
def nmsOut (x0 : Vec F S1x11x40x128 .f32) : Vec F S1x100x128 .f32 := fun y =>
  row (x0 (ix4 (n0 := 1) (n1 := 11) (n2 := 40) (n3 := 128) 0 10 0 0)) k0_pay31 lanes (planesAt k0_pay31 (initPlanes (blockPlane x0)) (y 1).val)
    (ix3 (n0 := 1) (n1 := 1) (n2 := 128) 0 0 (y 2))

/-- A plane loaded from a whole buffer that holds the block. -/
theorem readAt_plane (arg1 : Memref sig .tc .vmem S1x11x40x128 .f32) (harg1 : arg1.IsWhole) (x0 : Vec F S1x11x40x128 .f32) (p : Fin 10)
    (h : ∀ a : Fin S1x11x40x128.rank, (![0, p.val, 0, 0] : Fin 4 → ℕ) a + S1x1x40x128.size a ≤ S1x11x40x128.size a) :
    arg1.view.readAt (Elt F) (Rect.unit (s := S1x11x40x128) ![0, p.val, 0, 0] S1x1x40x128.size h).toLoadRect (harg1.unread x0) = blockPlane x0 p := by
  funext y
  rw [Memref.IsWhole.readAt_unread]
  refine congrArg x0 (funext fun a => Fin.ext ?_)
  have e0 : (y 0).val = 0 := Nat.lt_one_iff.mp (y 0).isLt
  have e1 : (y 1).val = 0 := Nat.lt_one_iff.mp (y 1).isLt
  match a with
  | ⟨0, _⟩ => show 0 + 1 * (y 0).val = 0; omega
  | ⟨1, _⟩ => show p.val + 1 * (y 1).val = p.val; omega
  | ⟨2, _⟩ => show 0 + 1 * (y 2).val = (y 2).val; omega
  | ⟨3, _⟩ => show 0 + 1 * (y 3).val = (y 3).val; omega

theorem blk_inb (p : Fin 10) : ∀ a : Fin S1x11x40x128.rank, (![0, p.val, 0, 0] : Fin 4 → ℕ) a + S1x1x40x128.size a ≤ S1x11x40x128.size a := by
  intro a; fin_cases a <;> simp [S1x11x40x128, S1x1x40x128] <;> omega

set_option maxHeartbeats 1000000 in
/-- The body's triple. -/
theorem body_run (c : Dev nD) (i : grid0.Coords) (arg1 : Memref sig .tc .vmem S1x11x40x128 .f32) (harg1 : arg1.IsWhole) (arg2 : Memref sig .tc .vmem S1x100x128 .f32) (harg2 : arg2.IsWhole) (arg3 : Memref sig .tc .vmem S11x40x128 .f32) (harg3 : arg3.IsWhole)
    (x0 : Vec F S1x11x40x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (nmsOut x0) ∗ (∃ d, owns (c : Thread nD τ) arg3 fullShare d)) -∗ K ⟨⟩))
      ⊢ wp frame (wpE (defs₀ (F := F)) Variants.none c none) E (cc0__nms_kernel i arg1 harg1 arg2 harg2 arg3 harg3) K := by
  simp only [cc0__nms_kernel_eq_skeleton]; unfold cc0__nms_kernel_skel
  simp only [k0_part5_eq_skeleton, k0_part6_eq_skeleton, k0_part7_eq_skeleton, k0_part8_eq_skeleton]
  unfold owns
  iintro ⟨⟨%f0, %hf0, H0⟩, ⟨%d1, %f1, -, H1⟩, ⟨%ds0, %fs0, -, HS0⟩, Hk⟩
  obtain rfl := harg1.eq_unread hf0
  sl_exec
  sl_step
  iapply Hk
  isplitl [H0]
  · iexists _; isplitr; · ipureintro; exact harg1.read_unread _
    iexact H0
  isplitl [H1]
  · iexists _; isplitr; swap; · iexact H1
    ipureintro
    unfold body_run.sl.HS0_11
    funext y
    have hl : Scf.trips k0_t1_loop.lb k0_t1_loop.ub k0_t1_loop.st = 100 := by decide
    have hb : blockPlane x0 = fun p : Fin 10 => arg1.view.readAt (Elt F) (Rect.unit (s := S1x11x40x128) ![0, p.val, 0, 0] S1x1x40x128.size (blk_inb p)).toLoadRect (harg1.unread x0) :=
      funext fun p => (readAt_plane arg1 harg1 x0 p (blk_inb p)).symm
    rw [hl, (pieces_before _ _ _ _ _ _ _ _ _ _ _ _ _ _ (initPlanes (blockPlane x0)) _ _ (planesOf_stores _ _ (initPlanes (blockPlane x0)) _ (by rw [hb]; rfl)) 100 le_rfl).2 y (y 1).isLt]
    unfold nmsOut
    refine congrArg (fun v => row v k0_pay31 lanes _ _) ?_
    refine (harg1.readAt_unread x0 (Rect.unit (s := S1x11x40x128) ![0, 10, 0, 0] S1x1x1x1.size inb_S1x11x40x128_S1x1x1x1_0_10_0_0).toLoadRect _).trans ?_
    refine congrArg x0 (funext fun a => Fin.ext ?_)
    fin_cases a <;> rfl
  iexists _, _; isplitr; swap; · iexact HS0
  ipureintro; rfl

end Cert.KernelIdeal.Nms

end
-- ==== Proof.KFrame.lean ====
/- The kernel's run: every block of the output array holds the rows the body leaves of the input's block, and the arguments end unchanged. -/
module

public import proofs.«01_k».proof.Proof.KBody
public import Idealize.ShloMosaic.Lib.Claim

@[expose] public section

-- membership in a rectangle of production extents (`View.cover_of_tiled`): the elaborator's structural look
-- recurses once per coordinate of the long axes
set_option maxRecDepth 16384

noncomputable section

namespace Cert.KernelIdeal.Nms

open Idealize.ShloMosaic Idealize.ShloMosaic.TcCoe Idealize.ShloMosaic.Tactic
open Cert.KernelIdeal Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and the output's at `nmsOut` of the block; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => nmsOut (iblk m c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = nmsOut (iblk m c 0 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, PhiA0_eq]
  iintro ⟨⟨HS0, Hg⟩, Ho, ⟨%d0, H0⟩, ⟨%d1, H1⟩⟩
  iapply (body_run c (grid0.coords t) _ _ _ _ _ _ (iblk m c 0 t) Set.univ _)
  isplitl [H0]; · iexact H0
  isplitl [H1]; · iexists _; iexact H1
  isplitl [HS0]; · iexact HS0
  iintro ⟨H0, H1, HS0⟩
  isplitl [HS0 Hg]
  · isplitl [HS0]
    · iexact HS0
    iexact Hg
  isplitl [Ho]; · iexact Ho
  isplitl [H0]; · iexact H0
  iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Nms

end
-- ==== Proof.PFrame.lean ====
/- The kernel as taken, from the idealized kernel: the two programs are the same text up to the named constant, so the
   idealized one, at words with the constant read as its own word, is the kernel. -/
module

public import proofs.«01_k».proof.Proof.KFrame
public import proofs.«01_k».proof.Defs
public import proofs.«01_k».proof.Proof.Gen.Kernel

@[expose] public section

set_option maxRecDepth 16384

noncomputable section

namespace Cert.Kernel.Nms

open Idealize.ShloMosaic Idealize.ShloMosaic.TcCoe Idealize.ShloMosaic.Tactic Idealize.SL.Sem

/-- At words a named constant read as the word it replaced. -/
abbrev asWord : Named Bits := ⟨fun _ _ {φ} w => FloatOps.ofBits φ w⟩

/-- The kernel's frame. -/
theorem frame : @Cert.quiescent_Kernel Cert.Kernel.Gen.facts := by
  unfold Cert.quiescent_Kernel
  have h := fun m g => fun (_ : Cert.Pre_Kernel m) => @Cert.KernelIdeal.Nms.frame Bits _ asWord m g
  refine Eq.mp ?_ h
  sl_kernel_rfl

end Cert.Kernel.Nms
end
-- ==== Proof.KPrefix.lean ====
/-  What the operations before the kernel's call leave in the stacked planes, in the reference's own terms where the two programs agree.
    The operations are read in stretches, each from what the stretches before it left. -/
module

public import proofs.«01_k».proof.Proof.KFrame
public import proofs.«01_k».proof.Proof.Gen.ReferenceIdeal.Step
public import Idealize.ShloMosaic.Lib.Claim
public import Idealize.ShloMosaic.Lib.StableHlo.RunRead

@[expose] public section

set_option maxRecDepth 65536
set_option maxHeartbeats 4000000

noncomputable section

namespace Cert.KernelIdeal.Nms

open Idealize.ShloMosaic Idealize.ShloMosaic.TcCoe Idealize.ShloMosaic.Tactic Idealize.SL.Sem Idealize.ShloMosaic.StableHlo
open Cert.KernelIdeal Cert.KernelIdeal.Gen
open Cert.ReferenceIdeal.Step (A_main_v105 A_main_v211 A_main_v212 A_main_indices A_main_v213 A_main_v217 A_main_v228)

variable {F : FTy → Type} [FloatOps F]

/-- A function of the first eleven arguments, at the arguments that a valuation holds. -/
abbrev atArgs {α : Type} (f : (⟨S2x1620x48x48, .f32⟩ : BufTy).Contents (Elt F) → (⟨S2x1620x24x24, .f32⟩ : BufTy).Contents (Elt F) → (⟨S2x1620x12x12, .f32⟩ : BufTy).Contents (Elt F) → (⟨S2x1620x6x6, .f32⟩ : BufTy).Contents (Elt F) → (⟨S2x1620x3x3, .f32⟩ : BufTy).Contents (Elt F) → (⟨S2x324x48x48, .f32⟩ : BufTy).Contents (Elt F) → (⟨S2x324x24x24, .f32⟩ : BufTy).Contents (Elt F) → (⟨S2x324x12x12, .f32⟩ : BufTy).Contents (Elt F) → (⟨S2x324x6x6, .f32⟩ : BufTy).Contents (Elt F) → (⟨S2x324x3x3, .f32⟩ : BufTy).Contents (Elt F) → (⟨S27621x4, .f32⟩ : BufTy).Contents (Elt F) → α)
    (V : Valuation τ sig (Elt F)) : α :=
  f (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10))

/-- Laying equal lists end to end gives equal arrays. -/
theorem concatenate_congr {A : EltTy} {s : Shape} {a : Fin s.rank} {xs ys : List (Σ s : Shape, s.Idx → Elt F A)} (h : xs = ys) :
    ∀ hx hy, concatenate s a xs hx = concatenate s a ys hy := by
  subst h; intros; rfl

/-- The remainder with the divisor's sign, by the twenty classes. -/
def signedRem (i : (⟨S2x5000, .i32⟩ : BufTy).Contents (Elt F)) : (⟨S2x5000, .i32⟩ : BufTy).Contents (Elt F) :=
  let n : (⟨S_, .i32⟩ : BufTy).Contents (Elt F) := select (cmpi .eq (constantI S_ 32 20#32) (constantI S_ 32 0#32)) (constantI S_ 32 1#32) (constantI S_ 32 20#32)
  let r := Host.remsi i (broadcastInDim S2x5000 ![] bcast_S_S2x5000 n)
  select (andi (cmpi .ne (cmpi .slt r (broadcastInDim S2x5000 ![] bcast_S_S2x5000 (constantI S_ 32 0#32)))
      (broadcastInDim S2x5000 ![] bcast_S_S2x5000 (cmpi .slt n (constantI S_ 32 0#32))))
    (cmpi .ne r (broadcastInDim S2x5000 ![] bcast_S_S2x5000 (constantI S_ 32 0#32))))
    (addi r (broadcastInDim S2x5000 ![] bcast_S_S2x5000 n)) r

/-- One plane: a value per candidate, zeros behind, in rows of lanes. -/
def padded (x : (⟨S2x5000, .f32⟩ : BufTy).Contents (Elt F)) : (⟨S2x1x40x128, .f32⟩ : BufTy).Contents (Elt F) :=
  broadcastInDim S2x1x40x128 ![0, 2, 3] bcast_S2x40x128_S2x1x40x128_0_2_3
    (shapeCast S2x40x128 (pad S2x5120 ![0, 0] ![0, 120] ![0, 0] x (sitofp .f32 (constantI S_ 32 0#32)) pads_S2x5000_S2x5120_000_01200 h_S_)
      shapeCasts_S2x5120_S2x40x128)

/-- The columns of the four coordinates. -/
def col0 (x : (⟨S2x5000x4, .f32⟩ : BufTy).Contents (Elt F)) : (⟨S2x5000, .f32⟩ : BufTy).Contents (Elt F) :=
  shapeCast S2x5000 (extractStridedSlice S2x5000x1 ![0, 0, 0] x slices_S2x5000x4_S2x5000x1_0_0_0) shapeCasts_S2x5000x1_S2x5000
def col1 (x : (⟨S2x5000x4, .f32⟩ : BufTy).Contents (Elt F)) : (⟨S2x5000, .f32⟩ : BufTy).Contents (Elt F) :=
  shapeCast S2x5000 (extractStridedSlice S2x5000x1 ![0, 0, 1] x slices_S2x5000x4_S2x5000x1_0_0_1) shapeCasts_S2x5000x1_S2x5000
def col2 (x : (⟨S2x5000x4, .f32⟩ : BufTy).Contents (Elt F)) : (⟨S2x5000, .f32⟩ : BufTy).Contents (Elt F) :=
  shapeCast S2x5000 (extractStridedSlice S2x5000x1 ![0, 0, 2] x slices_S2x5000x4_S2x5000x1_0_0_2) shapeCasts_S2x5000x1_S2x5000
def col3 (x : (⟨S2x5000x4, .f32⟩ : BufTy).Contents (Elt F)) : (⟨S2x5000, .f32⟩ : BufTy).Contents (Elt F) :=
  shapeCast S2x5000 (extractStridedSlice S2x5000x1 ![0, 0, 3] x slices_S2x5000x4_S2x5000x1_0_0_3) shapeCasts_S2x5000x1_S2x5000

/-- The eleven planes: relative boxes, anchors, scores, classes and the images' scales. -/
def stacked (t a : (⟨S2x5000x4, .f32⟩ : BufTy).Contents (Elt F)) (v : (⟨S2x5000, .f32⟩ : BufTy).Contents (Elt F))
    (k : (⟨S2x5000, .i32⟩ : BufTy).Contents (Elt F)) (z : (⟨S2, .f32⟩ : BufTy).Contents (Elt F)) : (⟨S2x11x40x128, .f32⟩ : BufTy).Contents (Elt F) :=
  concatenate S2x11x40x128 1 [⟨S2x10x40x128, concatenate S2x10x40x128 1 [⟨S2x1x40x128, padded (col0 t)⟩, ⟨S2x1x40x128, padded (col1 t)⟩,
      ⟨S2x1x40x128, padded (col2 t)⟩, ⟨S2x1x40x128, padded (col3 t)⟩, ⟨S2x1x40x128, padded (col0 a)⟩, ⟨S2x1x40x128, padded (col1 a)⟩,
      ⟨S2x1x40x128, padded (col2 a)⟩, ⟨S2x1x40x128, padded (col3 a)⟩, ⟨S2x1x40x128, padded v⟩, ⟨S2x1x40x128, padded (sitofp .f32 k)⟩]
      concatenates_S2x1x40x128_S2x1x40x128_S2x1x40x128_S2x1x40x128_S2x1x40x128_S2x1x40x128_S2x1x40x128_S2x1x40x128_S2x1x40x128_S2x1x40x128_S2x10x40x128_d1⟩,
    ⟨S2x1x40x128, broadcastInDim S2x1x40x128 ![0, 1, 2, 3] bcast_S2x1x1x1_S2x1x40x128_0_1_2_3 (broadcastInDim S2x1x1x1 ![0] bcast_S2_S2x1x1x1_0 z)⟩]
    concatenates_S2x10x40x128_S2x1x40x128_S2x11x40x128_d1

variable (V U : Valuation τ sig (Elt F))

/-- The class scores of every place and the boxes of every place. -/
theorem after_heads :
    after (hostOps0.take 252) V (Proc.devRef .tc main_v105) = atArgs A_main_v105 V
      ∧ after (hostOps0.take 252) V (Proc.devRef .tc main_v211) = atArgs A_main_v211 V
      ∧ after (hostOps0.take 252) V (Proc.devRef .tc main_arg10) = V (Proc.devRef .tc main_arg10)
      ∧ after (hostOps0.take 252) V (Proc.devRef .tc main_arg11) = V (Proc.devRef .tc main_arg11) := by
  refine ⟨?_, ?_, ?_, ?_⟩ <;> simp only [List.take]
  · after_reads_simp
    refine concatenate_congr ?_ _ _
    dsimp only [Matrix.cons_val]
    after_reads_simp
    rfl
  · after_reads_simp
    refine concatenate_congr ?_ _ _
    dsimp only [Matrix.cons_val]
    after_reads_simp
    rfl
  · after_reads_simp
  · after_reads_simp

/-- The greatest scores and their places, in order. -/
def topValues : (⟨S2x5000, .f32⟩ : BufTy).Contents (Elt F) :=
  (Host.topK S2x5000 1 (FloatOps.cmpfTotal .gt) (atArgs A_main_v212 U) sliceFits_S2x552420_S2x5000).1

theorem after_rank (h105 : V (Proc.devRef .tc main_v105) = atArgs A_main_v105 U) :
    after (hostOps0.drop 252) V (Proc.devRef .tc main_values) = topValues U
      ∧ after (hostOps0.drop 252) V (Proc.devRef .tc main_indices) = atArgs A_main_indices U
      ∧ after (hostOps0.drop 252) V (Proc.devRef .tc main_c) = constantI S_ 32 20#32
      ∧ after (hostOps0.drop 252) V (Proc.devRef .tc main_v211) = V (Proc.devRef .tc main_v211)
      ∧ after (hostOps0.drop 252) V (Proc.devRef .tc main_arg10) = V (Proc.devRef .tc main_arg10)
      ∧ after (hostOps0.drop 252) V (Proc.devRef .tc main_arg11) = V (Proc.devRef .tc main_arg11) := by
  refine ⟨?_, ?_, ?_, ?_, ?_, ?_⟩ <;> (simp only [List.drop]; after_reads_simp)
  · simp only [h105]; rfl
  · simp only [h105]; rfl

/-- The candidates' numbers: the quotients. -/
theorem after_quotient (hi : V (Proc.devRef .tc main_indices) = atArgs A_main_indices U)
    (hc : V (Proc.devRef .tc main_c) = constantI S_ 32 20#32) :
    after hostOps0_1 V (Proc.devRef .tc main_v213) = atArgs A_main_v213 U
      ∧ after hostOps0_1 V (Proc.devRef .tc main_indices) = V (Proc.devRef .tc main_indices)
      ∧ after hostOps0_1 V (Proc.devRef .tc main_values) = V (Proc.devRef .tc main_values)
      ∧ after hostOps0_1 V (Proc.devRef .tc main_v211) = V (Proc.devRef .tc main_v211)
      ∧ after hostOps0_1 V (Proc.devRef .tc main_arg10) = V (Proc.devRef .tc main_arg10)
      ∧ after hostOps0_1 V (Proc.devRef .tc main_arg11) = V (Proc.devRef .tc main_arg11) := by
  refine ⟨?_, ?_, ?_, ?_, ?_, ?_⟩ <;> after_reads_simp
  simp only [TRef.toBuf, TRef.ofBuf, cast_eq, id, hi, hc]
  rfl

/-- The candidates' classes: the remainders. -/
theorem after_remainder (hi : V (Proc.devRef .tc main_indices) = atArgs A_main_indices U) :
    after (hostOps0_2 ++ hostOps0_3) V (Proc.devRef .tc main_v214) = signedRem (atArgs A_main_indices U)
      ∧ after (hostOps0_2 ++ hostOps0_3) V (Proc.devRef .tc main_v213) = V (Proc.devRef .tc main_v213)
      ∧ after (hostOps0_2 ++ hostOps0_3) V (Proc.devRef .tc main_values) = V (Proc.devRef .tc main_values)
      ∧ after (hostOps0_2 ++ hostOps0_3) V (Proc.devRef .tc main_v211) = V (Proc.devRef .tc main_v211)
      ∧ after (hostOps0_2 ++ hostOps0_3) V (Proc.devRef .tc main_arg10) = V (Proc.devRef .tc main_arg10)
      ∧ after (hostOps0_2 ++ hostOps0_3) V (Proc.devRef .tc main_arg11) = V (Proc.devRef .tc main_arg11) := by
  refine ⟨?_, ?_, ?_, ?_, ?_, ?_⟩ <;> (simp only [List.cons_append, List.nil_append, hostOps0_3]; after_reads_simp)
  simp only [TRef.toBuf, TRef.ofBuf, cast_eq, id, hi]
  rfl

/-- The candidates' relative boxes. -/
theorem after_boxes (hq : V (Proc.devRef .tc main_v213) = atArgs A_main_v213 U)
    (h211 : V (Proc.devRef .tc main_v211) = atArgs A_main_v211 U) :
    after (hostOps0_4 ++ hostOps0_5) V (Proc.devRef .tc main_v216) = atArgs A_main_v217 U
      ∧ after (hostOps0_4 ++ hostOps0_5) V (Proc.devRef .tc main_v213) = V (Proc.devRef .tc main_v213)
      ∧ after (hostOps0_4 ++ hostOps0_5) V (Proc.devRef .tc main_v214) = V (Proc.devRef .tc main_v214)
      ∧ after (hostOps0_4 ++ hostOps0_5) V (Proc.devRef .tc main_values) = V (Proc.devRef .tc main_values)
      ∧ after (hostOps0_4 ++ hostOps0_5) V (Proc.devRef .tc main_arg10) = V (Proc.devRef .tc main_arg10)
      ∧ after (hostOps0_4 ++ hostOps0_5) V (Proc.devRef .tc main_arg11) = V (Proc.devRef .tc main_arg11) := by
  refine ⟨?_, ?_, ?_, ?_, ?_, ?_⟩ <;> (simp only [List.cons_append, List.nil_append, hostOps0_5]; after_reads_simp)
  simp only [TRef.toBuf, TRef.ofBuf, cast_eq, id, hq, h211]
  rfl

/-- The columns. -/
theorem after_columns (hq : V (Proc.devRef .tc main_v213) = atArgs A_main_v213 U)
    (h10 : V (Proc.devRef .tc main_arg10) = U (Proc.devRef .tc main_arg10)) (hk) (hk' : V (Proc.devRef .tc main_v214) = hk)
    (t) (ht : V (Proc.devRef .tc main_v216) = t) :
    after hostOps0_6 V (Proc.devRef .tc main_v225) = col0 t ∧ after hostOps0_6 V (Proc.devRef .tc main_v227) = col1 t
      ∧ after hostOps0_6 V (Proc.devRef .tc main_v229) = col2 t ∧ after hostOps0_6 V (Proc.devRef .tc main_v231) = col3 t
      ∧ after hostOps0_6 V (Proc.devRef .tc main_v233) = col0 (atArgs A_main_v228 U)
      ∧ after hostOps0_6 V (Proc.devRef .tc main_v235) = col1 (atArgs A_main_v228 U)
      ∧ after hostOps0_6 V (Proc.devRef .tc main_v237) = col2 (atArgs A_main_v228 U)
      ∧ after hostOps0_6 V (Proc.devRef .tc main_v239) = col3 (atArgs A_main_v228 U)
      ∧ after hostOps0_6 V (Proc.devRef .tc main_v240) = sitofp .f32 hk
      ∧ after hostOps0_6 V (Proc.devRef .tc main_c_42) = constantI S_ 32 0#32
      ∧ after hostOps0_6 V (Proc.devRef .tc main_values) = V (Proc.devRef .tc main_values)
      ∧ after hostOps0_6 V (Proc.devRef .tc main_arg11) = V (Proc.devRef .tc main_arg11) := by
  refine ⟨?_, ?_, ?_, ?_, ?_, ?_, ?_, ?_, ?_, ?_, ?_, ?_⟩ <;> (after_reads_simp; try simp only [hq, h10, hk', ht]) <;> rfl

/-- The operations that pad the columns, and those that stack them. -/
def opsPads : List (HloOp τ sig (Elt F)) := hostOps0_7 ++ hostOps0_8 ++ hostOps0_9 ++ hostOps0_10 ++ hostOps0_11 ++ hostOps0_12 ++ hostOps0_13
  ++ hostOps0_14 ++ hostOps0_15 ++ hostOps0_16 ++ hostOps0_17 ++ hostOps0_18 ++ hostOps0_19 ++ hostOps0_20 ++ hostOps0_21 ++ hostOps0_22
  ++ hostOps0_23 ++ hostOps0_24 ++ hostOps0_25 ++ hostOps0_26.take 11
abbrev opsJoin : List (HloOp τ sig (Elt F)) := hostOps0_26.drop 11

/-- The padded planes. -/
theorem after_pads (t a : (⟨S2x5000x4, .f32⟩ : BufTy).Contents (Elt F)) (k : (⟨S2x5000, .i32⟩ : BufTy).Contents (Elt F))
     (h0 : V (Proc.devRef .tc main_v225) = col0 t) (h1 : V (Proc.devRef .tc main_v227) = col1 t)
    (h2 : V (Proc.devRef .tc main_v229) = col2 t) (h3 : V (Proc.devRef .tc main_v231) = col3 t) (h4 : V (Proc.devRef .tc main_v233) = col0 a)
    (h5 : V (Proc.devRef .tc main_v235) = col1 a) (h6 : V (Proc.devRef .tc main_v237) = col2 a) (h7 : V (Proc.devRef .tc main_v239) = col3 a)
    (h8 : V (Proc.devRef .tc main_v240) = sitofp .f32 k) (hc : V (Proc.devRef .tc main_c_42) = constantI S_ 32 0#32) :
    after opsPads V (Proc.devRef .tc main_v261) = padded (col0 t)
      ∧ after opsPads V (Proc.devRef .tc main_v262) = padded (col1 t)
      ∧ after opsPads V (Proc.devRef .tc main_v263) = padded (col2 t)
      ∧ after opsPads V (Proc.devRef .tc main_v264) = padded (col3 t)
      ∧ after opsPads V (Proc.devRef .tc main_v265) = padded (col0 a)
      ∧ after opsPads V (Proc.devRef .tc main_v266) = padded (col1 a)
      ∧ after opsPads V (Proc.devRef .tc main_v267) = padded (col2 a)
      ∧ after opsPads V (Proc.devRef .tc main_v268) = padded (col3 a)
      ∧ after opsPads V (Proc.devRef .tc main_v269) = padded (V (Proc.devRef .tc main_values))
      ∧ after opsPads V (Proc.devRef .tc main_v270) = padded (sitofp .f32 k)
      ∧ after opsPads V (Proc.devRef .tc main_arg11) = V (Proc.devRef .tc main_arg11) := by
  refine ⟨?_, ?_, ?_, ?_, ?_, ?_, ?_, ?_, ?_, ?_, ?_⟩ <;>
    (unfold opsPads; simp only [after_append, List.take]; after_reads_simp
     try simp only [TRef.toBuf, TRef.ofBuf, cast_eq, id, h0, h1, h2, h3, h4, h5, h6, h7, h8, hc]
     try rfl)

/-- The planes. -/
theorem after_join (t a : (⟨S2x5000x4, .f32⟩ : BufTy).Contents (Elt F)) (k : (⟨S2x5000, .i32⟩ : BufTy).Contents (Elt F))
    (v : (⟨S2x5000, .f32⟩ : BufTy).Contents (Elt F)) (h0 : V (Proc.devRef .tc main_v261) = padded (col0 t))
    (h1 : V (Proc.devRef .tc main_v262) = padded (col1 t))
    (h2 : V (Proc.devRef .tc main_v263) = padded (col2 t))
    (h3 : V (Proc.devRef .tc main_v264) = padded (col3 t))
    (h4 : V (Proc.devRef .tc main_v265) = padded (col0 a))
    (h5 : V (Proc.devRef .tc main_v266) = padded (col1 a))
    (h6 : V (Proc.devRef .tc main_v267) = padded (col2 a))
    (h7 : V (Proc.devRef .tc main_v268) = padded (col3 a))
    (h8 : V (Proc.devRef .tc main_v269) = padded (v))
    (h9 : V (Proc.devRef .tc main_v270) = padded (sitofp .f32 k)) :
    after opsJoin V (Proc.devRef .tc main_v274) = stacked t a v k (V (Proc.devRef .tc main_arg11)) := by
  simp only [List.drop]
  after_reads_simp
  unfold stacked
  rw [← h0, ← h1, ← h2, ← h3, ← h4, ← h5, ← h6, ← h7, ← h8, ← h9]
  rfl

end Cert.KernelIdeal.Nms
end
-- ==== Proof.KStack.lean ====
/- The stacked planes the kernel reads, as one function of the arguments. -/
module

public import proofs.«01_k».proof.Proof.KPrefix

@[expose] public section

set_option maxRecDepth 65536
set_option maxHeartbeats 4000000

noncomputable section

namespace Cert.KernelIdeal.Nms

open Idealize.ShloMosaic Idealize.ShloMosaic.TcCoe Idealize.ShloMosaic.Tactic Idealize.SL.Sem Idealize.ShloMosaic.StableHlo
open Cert.KernelIdeal Cert.KernelIdeal.Gen
open Cert.ReferenceIdeal.Step (A_main_v105 A_main_v211 A_main_v212 A_main_indices A_main_v213 A_main_v217 A_main_v228)

variable {F : FTy → Type} [FloatOps F]

/-- The operations before the call, in the stretches they are read in. -/
theorem stretches (U : Valuation τ sig (Elt F)) :
    after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) U
      = after opsJoin (after opsPads (after hostOps0_6 (after (hostOps0_4 ++ hostOps0_5) (after (hostOps0_2 ++ hostOps0_3)
        (after hostOps0_1 (after (hostOps0.drop 252) (after (hostOps0.take 252) U))))))) := by
  have e : List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]
      = (hostOps0.take 252 ++ hostOps0.drop 252 ++ hostOps0_1 ++ (hostOps0_2 ++ hostOps0_3) ++ (hostOps0_4 ++ hostOps0_5) ++ hostOps0_6
          ++ opsPads ++ opsJoin : List (HloOp τ sig (Elt F))) := by
    have h0 := List.take_append_drop 252 (hostOps0 : List (HloOp τ sig (Elt F)))
    have h1 := List.take_append_drop 11 (hostOps0_26 : List (HloOp τ sig (Elt F)))
    rw [h0]
    unfold opsPads opsJoin
    generalize (hostOps0_26 : List (HloOp τ sig (Elt F))).take 11 = x at h1 ⊢
    generalize (hostOps0_26 : List (HloOp τ sig (Elt F))).drop 11 = y at h1 ⊢
    rw [← h1]
    simp only [List.flatten_cons, List.flatten_nil, List.append_nil, List.append_assoc]
  rw [e]
  simp only [after_append]

variable (m : (ℓ : Loc nD τ sig) → Buf (Elt F) ℓ)

/-- What the call's input array holds. -/
theorem entry_planes (c : Dev nD) (U : Valuation τ sig (Elt F)) (hU : U = fun b => m (c, b)) :
    V0 m c (Proc.devRef .tc main_v274) = stacked (atArgs A_main_v217 U) (atArgs A_main_v228 U) (topValues U)
      (signedRem (atArgs A_main_indices U)) (U (Proc.devRef .tc main_arg11)) := by
  subst hU
  refine (congrFun (stretches _) _).trans ?_
  generalize (fun b => m (c, b) : Valuation τ sig (Elt F)) = U
  obtain ⟨a1, a2, a3, a4⟩ := after_heads U
  generalize after (hostOps0.take 252) U = V at a1 a2 a3 a4 ⊢
  obtain ⟨b1, b2, b3, b4, b5, b6⟩ := after_rank V U a1
  replace b4 := b4.trans a2
  replace b5 := b5.trans a3
  replace b6 := b6.trans a4
  clear a1 a2 a3 a4
  generalize after (hostOps0.drop 252) V = W at b1 b2 b3 b4 b5 b6 ⊢
  obtain ⟨c1, c2, c3, c4, c5, c6⟩ := after_quotient W U b2 b3
  replace c2 := c2.trans b2
  replace c3 := c3.trans b1
  replace c4 := c4.trans b4
  replace c5 := c5.trans b5
  replace c6 := c6.trans b6
  clear b1 b2 b3 b4 b5 b6 V
  generalize after hostOps0_1 W = V at c1 c2 c3 c4 c5 c6 ⊢
  obtain ⟨d1, d2, d3, d4, d5, d6⟩ := after_remainder V U c2
  replace d2 := d2.trans c1
  replace d3 := d3.trans c3
  replace d4 := d4.trans c4
  replace d5 := d5.trans c5
  replace d6 := d6.trans c6
  clear c1 c2 c3 c4 c5 c6 W
  generalize after (hostOps0_2 ++ hostOps0_3) V = W at d1 d2 d3 d4 d5 d6 ⊢
  obtain ⟨e1, e2, e3, e4, e5, e6⟩ := after_boxes W U d2 d4
  replace e2 := e2.trans d2
  replace e3 := e3.trans d1
  replace e4 := e4.trans d3
  replace e5 := e5.trans d5
  replace e6 := e6.trans d6
  clear d1 d2 d3 d4 d5 d6 V
  generalize after (hostOps0_4 ++ hostOps0_5) W = V at e1 e2 e3 e4 e5 e6 ⊢
  obtain ⟨f0, f1, f2, f3, f4, f5, f6, f7, f8, f9, f10, f11⟩ := after_columns V U e2 e5 _ e3 _ e1
  replace f10 := f10.trans e4
  replace f11 := f11.trans e6
  clear e1 e2 e3 e4 e5 e6 W
  generalize after hostOps0_6 V = W at f0 f1 f2 f3 f4 f5 f6 f7 f8 f9 f10 f11 ⊢
  obtain ⟨g0, g1, g2, g3, g4, g5, g6, g7, g8, g9, g10⟩ := after_pads W _ _ _ f0 f1 f2 f3 f4 f5 f6 f7 f8 f9
  rw [f10] at g8
  replace g10 := g10.trans f11
  rw [← g10]
  exact after_join _ _ _ _ _ g0 g1 g2 g3 g4 g5 g6 g7 g8 g9

end Cert.KernelIdeal.Nms
end
-- ==== Proof.RStep.lean ====
/-  The reference's run, told by the state that one trip of its loop hands the next: the carried buffers of a valuation are a
    state, one trip of the loop is `step` of it, and what the operations before the loop leave is `init` of the arguments.  -/
module

public import proofs.«01_k».proof.Proof.Gen.ReferenceIdeal.Run
public import proofs.«01_k».proof.Proof.Gen.ReferenceIdeal.Step
public import Idealize.ShloMosaic.Lib.Tactic

@[expose] public section

set_option maxRecDepth 8192

noncomputable section

namespace Cert.ReferenceIdeal.Nms

open Idealize.ShloMosaic Idealize.ShloMosaic.TcCoe Idealize.ShloMosaic.Tactic Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The carried buffers of a valuation, as a state of the loop. -/
abbrev carried (V : Valuation τ sig (Elt F)) : State F :=
  ⟨V (Proc.devRef .tc main_v304_5), V (Proc.devRef .tc main_v304_6), V (Proc.devRef .tc main_v304_0),
   V (Proc.devRef .tc main_v304_1), V (Proc.devRef .tc main_v304_2), V (Proc.devRef .tc main_v304_3)⟩

/-- One trip's scores are the step's. -/
theorem trip_scores (V : Valuation τ sig (Elt F)) (j : ℕ) : Value.step_main_v304_5 V = Step.b161 j (carried V) := by
  unfold Value.step_main_v304_5
  sl_kernel_rfl

/-- One trip's rows are the step's, where the counter holds the trip's number. -/
theorem trip_rows (V : Valuation τ sig (Elt F)) (j : ℕ)
    (h : V (Proc.devRef .tc main_v304_4) = constantI S_ 32 (BitVec.ofNat 32 j)) :
    Value.step_main_v304_6 V = Step.b165 j (carried V) := by
  unfold Value.step_main_v304_6
  rw [h]
  sl_kernel_rfl

/-- The state before trip `k`, from a state before the first. -/
def iter (s : State F) : ℕ → State F
  | 0 => s
  | k + 1 => step k (iter s k)

/-- After `k` trips the counter holds `k` and the carried buffers hold the iterated state. -/
theorem carried_iter (V : Valuation τ sig (Elt F)) (h : V (Proc.devRef .tc main_v304_4) = constantI S_ 32 0#32) :
    ∀ k, (STEP^[k] V) (Proc.devRef .tc main_v304_4) = constantI S_ 32 (BitVec.ofNat 32 k)
      ∧ carried (STEP^[k] V) = iter (carried V) k
  | 0 => ⟨h, rfl⟩
  | k + 1 => by
    obtain ⟨hn, hs⟩ := carried_iter V h k
    rw [Function.iterate_succ_apply']
    refine ⟨?_, ?_⟩
    · rw [STEP_main_v304_4]
      unfold Value.step_main_v304_4
      rw [hn]
      funext i
      exact (BitVec.ofNat_add k 1).symm
    · show _ = step k (iter (carried V) k)
      rw [← hs]
      unfold carried
      rw [STEP_main_v304_0, STEP_main_v304_1, STEP_main_v304_2, STEP_main_v304_3, STEP_main_v304_5, STEP_main_v304_6,
        trip_scores _ k, trip_rows _ k hn]
      rfl

end Cert.ReferenceIdeal.Nms
end
-- ==== Proof.TopK.lean ====
/- A stable sort's head, and what a top-k reads. -/
module

public import Idealize.ShloMosaic.Lib.Pointwise
public import Idealize.ShloMosaic.Lib.SortFacts
public import Idealize.ShloMosaic.PureOps.Ideal.Laws

@[expose] public section

set_option maxRecDepth 16384

noncomputable section

namespace Cert.ReferenceIdeal.Nms

open Idealize.ShloMosaic

/-- The head of a list sorted stably with the greater value first: no entry's value is greater, and every earlier one's is smaller. -/
theorem head_stableSort {n : ℕ} (before : Fin n → Fin n → Bool) (f : Fin n → EReal) (hb : ∀ a b, before a b = true ↔ f b < f a)
    (l : List (Fin n)) (hl : l.Pairwise (· < ·)) (h : Fin n) (m : List (Fin n)) (e : stableSort before l = h :: m) :
    ∀ x ∈ l, f x ≤ f h ∧ (x < h → f x < f h) := by
  induction l generalizing h m with
  | nil => simp
  | cons a l ih =>
    obtain ⟨ha, hl'⟩ := List.pairwise_cons.1 hl
    change insertBefore before a (stableSort before l) = h :: m at e
    rcases hs : stableSort before l with _ | ⟨b, m'⟩
    · have : l = [] := by
        have := (perm_stableSort before l); rw [hs] at this; exact this.symm.eq_nil
      subst this
      rw [hs] at e
      have : h = a := by simpa [insertBefore, eq_comm] using congrArg List.head? e
      intro x hx
      simp only [List.mem_singleton] at hx
      subst hx; subst this
      exact ⟨le_rfl, fun h => absurd h (lt_irrefl _)⟩
    · have hbl : b ∈ l := (perm_stableSort before l).mem_iff.1 (hs ▸ List.mem_cons_self)
      have ih' := ih hl' b m' hs
      rw [hs, insertBefore] at e
      split at e
      · next hba =>
        have hbh : b = h := (List.cons.inj e).1
        subst hbh
        have hlt := (hb _ _).1 hba
        intro x hx
        rcases List.mem_cons.1 hx with rfl | hx
        · exact ⟨hlt.le, fun _ => hlt⟩
        · exact ih' x hx
      · next hba =>
        have hah : a = h := (List.cons.inj e).1
        subst hah
        have hle : f b ≤ f a := not_lt.1 fun hlt => hba ((hb _ _).2 hlt)
        intro x hx
        rcases List.mem_cons.1 hx with rfl | hx
        · exact ⟨le_rfl, fun h => absurd h (lt_irrefl _)⟩
        · exact ⟨(ih' x hx).1.trans hle, fun h => absurd (ha x hx) (not_lt.2 h.le)⟩

/-- The position a stable sort puts first. -/
theorem sortedFrom_zero {n : ℕ} (before : Fin n → Fin n → Bool) (f : Fin n → EReal) (hb : ∀ a b, before a b = true ↔ f b < f a)
    (k : Fin n) (hk : k.val = 0) :
    (∀ x, f x ≤ f (sortedFrom before k)) ∧ ∀ x, x < sortedFrom before k → f x < f (sortedFrom before k) := by
  have hlen : (stableSort before (List.finRange n)).length = n := by simp [length_stableSort]
  rcases hs : stableSort before (List.finRange n) with _ | ⟨h, m⟩
  · rw [hs] at hlen; exact absurd k.isLt (by simp at hlen; omega)
  have hh : sortedFrom before k = h := by
    have : (stableSort before (List.finRange n))[0]'(by rw [hlen]; have := k.isLt; omega) = h := by simp [hs]
    rw [← this]
    unfold sortedFrom sortPositions
    simp only [List.get_eq_getElem]
    congr 1
  have := head_stableSort before f hb _ (List.pairwise_lt_finRange n) h m hs
  rw [hh]
  exact ⟨fun x => (this x (List.mem_finRange _)).1, fun x => (this x (List.mem_finRange _)).2⟩

/-- A top-k along the last axis of a table of two rows: each entry is the row's at one position, and the index names it. -/
theorem topK_apply {n k : ℕ} (x : (⟨2, ![2, n]⟩ : Shape).Idx → EReal) (h : (⟨2, ![2, n]⟩ : Shape).Slices (fun _ => 0) ⟨2, ![2, k]⟩)
    (b : Fin 2) (j : Fin k) : ∃ p : Fin n,
      (Host.topK ⟨2, ![2, k]⟩ 1 (FloatOps.cmpfTotal (F := Ideal) (φ := .f32) .gt) x h).1 (ix2 b j) = x (ix2 b p)
      ∧ (Host.topK ⟨2, ![2, k]⟩ 1 (FloatOps.cmpfTotal (F := Ideal) (φ := .f32) .gt) x h).2 (ix2 b j) = BitVec.ofNat 32 p.val
      ∧ (j.val = 0 → (∀ l, x (ix2 b l) ≤ x (ix2 b p)) ∧ ∀ l, l < p → x (ix2 b l) < x (ix2 b p)) := by
  have hj : j.val < n := by
    have := h.2 1
    simp at this
    have := j.isLt; omega
  have hcmp : ∀ u v : EReal, (Ideal.cmp .ogt u v == 1#1) = true ↔ v < u := by
    intro u v
    by_cases hv : v < u <;> simp [Ideal.cmp, hv]
  set y : (⟨2, ![2, n]⟩ : Shape).Idx := ix2 b ⟨j.val, hj⟩ with hy
  have hal : ∀ l : Fin n, y.along 1 l = ix2 b l := by
    intro l; funext a
    fin_cases a
    · exact Function.update_of_ne (show (0 : Fin 2) ≠ 1 by decide) _ _
    · exact Function.update_self _ _ _
  have hsl : ∀ {β : Type} (v : (⟨2, ![2, n]⟩ : Shape).Idx → β), extractStridedSlice ⟨2, ![2, k]⟩ (fun _ => 0) v h (ix2 b j) = v y := by
    intro β v
    refine congrArg v (funext fun a => Fin.ext ?_)
    fin_cases a <;> exact Nat.zero_add _
  refine ⟨sortedFrom (fun k k' : Fin n => FloatOps.cmpfTotal (F := Ideal) (φ := .f32) .gt (x (y.along 1 k)) (x (y.along 1 k')) == 1#1) ⟨j.val, hj⟩, ?_, ?_, ?_⟩
  · rw [← hal]
    unfold Host.topK
    dsimp only
    rw [hsl]
    unfold Host.sort2
    rw [dif_pos (show 1 < 2 by decide)]
    rfl
  · unfold Host.topK
    dsimp only
    rw [hsl]
    unfold Host.sort2
    rw [dif_pos (show 1 < 2 by decide)]
    exact congrArg (fun i : (⟨2, ![2, n]⟩ : Shape).Idx => BitVec.ofNat 32 (i 1).val) (hal _)
  · intro h0
    have := sortedFrom_zero (fun k k' : Fin n => FloatOps.cmpfTotal (F := Ideal) (φ := .f32) .gt (x (y.along 1 k)) (x (y.along 1 k')) == 1#1) (fun l => x (ix2 b l)) (fun u v => by rw [hal, hal]; exact hcmp _ _) ⟨j.val, hj⟩ h0
    exact this

end Cert.ReferenceIdeal.Nms
-- ==== Proof.Spec.lean ====
/- One suppression round on the extended reals, on which the kernel's trip and the reference's trip are both read. -/
module

public import Idealize.ShloMosaic.Lib.Pointwise
public import Idealize.ShloMosaic.PureOps.Ideal.Laws

@[expose] public section

noncomputable section

namespace Cert.Nms

open Idealize.ShloMosaic

/-- The area two boxes share; a box is its two low corners, then its two high ones. -/
def inter (a b : Fin 4 → EReal) : EReal :=
  max (min (a 2) (b 2) - max (a 0) (b 0)) 0 * max (min (a 3) (b 3) - max (a 1) (b 1)) 0

/-- A box's area. -/
def area (a : Fin 4 → EReal) : EReal := (a 2 - a 0) * (a 3 - a 1)

/-- The score of a box `b` after the round that picked box `a`: the floor when the two overlap by more than half, and kept otherwise. -/
def next (a b : Fin 4 → EReal) (s : EReal) : EReal :=
  if Ideal.ofBits FTy.f32 0x3F000000#32 < Ideal.div (inter a b) (area a + area b - inter a b + Ideal.ofBits FTy.f32 0x322BCC77#32)
  then Ideal.ofBits FTy.f32 0xC61C4000#32 else s

/-- A round's detection: the scaled box, the score and the class's number, or zeros when the score is at the floor. -/
def detection (box : Fin 4 → EReal) (scale s cls : EReal) (e : Fin 6) : EReal :=
  if Ideal.ofBits FTy.f32 0xC59C4000#32 < s then (![box 0 * scale, box 1 * scale, box 2 * scale, box 3 * scale, s, cls] : Fin 6 → EReal) e else 0

/-- The greatest score stands at `p`, and nowhere before it. -/
def First {n : ℕ} (s : Fin n → EReal) (p : Fin n) : Prop := (∀ l, s l ≤ s p) ∧ ∀ l, l < p → s l < s p

/-- A box's corners, of its relative centre and size `t` and its anchor `a`. -/
def corner (t a : Fin 4 → EReal) : Fin 4 → EReal :=
  ![t 1 * (a 3 - a 1) + Ideal.div (a 1 + a 3) (Ideal.ofBits FTy.f32 0x40000000#32)
      - Ideal.div (Ideal.exp (t 3) * (a 3 - a 1)) (Ideal.ofBits FTy.f32 0x40000000#32),
    t 0 * (a 2 - a 0) + Ideal.div (a 0 + a 2) (Ideal.ofBits FTy.f32 0x40000000#32)
      - Ideal.div (Ideal.exp (t 2) * (a 2 - a 0)) (Ideal.ofBits FTy.f32 0x40000000#32),
    t 1 * (a 3 - a 1) + Ideal.div (a 1 + a 3) (Ideal.ofBits FTy.f32 0x40000000#32)
      + Ideal.div (Ideal.exp (t 3) * (a 3 - a 1)) (Ideal.ofBits FTy.f32 0x40000000#32),
    t 0 * (a 2 - a 0) + Ideal.div (a 0 + a 2) (Ideal.ofBits FTy.f32 0x40000000#32)
      + Ideal.div (Ideal.exp (t 2) * (a 2 - a 0)) (Ideal.ofBits FTy.f32 0x40000000#32)]

end Cert.Nms
-- ==== Proof.RPick.lean ====
/- What a trip of the reference picks: the greatest score's first entry. Its gathers then read the state's arrays at that entry. -/
module

public import proofs.«01_k».proof.Proof.RStep
public import proofs.«01_k».proof.Proof.TopK
public import proofs.«01_k».proof.Proof.Spec

@[expose] public section

set_option maxRecDepth 16384

noncomputable section

namespace Cert.ReferenceIdeal.Nms

open Idealize.ShloMosaic Cert.ReferenceIdeal Cert.ReferenceIdeal.Gen Cert.ReferenceIdeal.Step

theorem clamp_word {p n : ℕ} (hp : p < n) (hn : n < 2 ^ 31) : min (BitVec.ofNat 32 p).toInt.toNat (n - 1) = p := by
  have : (BitVec.ofNat 32 p).toInt = p := by
    rw [BitVec.toInt_ofNat']; simp only [Int.bmod]; omega
  rw [this]; simp; omega

theorem gather_score {α : Type} (x : S2x5000.Idx → α) (idx : IVec S2x1x1 32) (n : Fin 2) (p : Fin 5000)
    (h : idx (ix3 n 0 0) = BitVec.ofNat 32 p.val) :
    Host.gather gather_S2x5000_S2x1x1_S2x1_n_1_0_0_1_2_11 x idx (ix2 n 0) = x (ix2 n p) := by
  refine congrArg x (funext fun a => Fin.ext ?_)
  have hs : ∀ c, gather_S2x5000_S2x1x1_S2x1_n_1_0_0_1_2_11.siIdx (ix2 n 0) c = ix3 n 0 0 := by
    intro c; funext b; fin_cases b
    · rfl
    · rfl
    · exact Subsingleton.elim (α := Fin 1) _ _
  fin_cases a
  · exact Nat.zero_add _
  · show min (idx (gather_S2x5000_S2x1x1_S2x1_n_1_0_0_1_2_11.siIdx (ix2 n 0) _)).toInt.toNat (5000 - 1) + 0 + 0 = p.val
    rw [hs, h]; exact clamp_word p.isLt (by norm_num)

theorem gather_row {α : Type} (x : S2x5000x4.Idx → α) (idx : IVec S2x1x1 32) (n : Fin 2) (p : Fin 5000) (q : Fin 4)
    (h : idx (ix3 n 0 0) = BitVec.ofNat 32 p.val) :
    Host.gather gather_S2x5000x4_S2x1x1_S2x1x4_2_1_0_0_1_2_114 x idx (ix3 n 0 q) = x (ix3 n p q) := by
  refine congrArg x (funext fun a => Fin.ext ?_)
  have hs : ∀ c, gather_S2x5000x4_S2x1x1_S2x1x4_2_1_0_0_1_2_114.siIdx (ix3 n 0 q) c = ix3 n 0 0 := by
    intro c; funext b; fin_cases b
    · rfl
    · rfl
    · exact Subsingleton.elim (α := Fin 1) _ _
  fin_cases a
  · exact Nat.zero_add _
  · show min (idx (gather_S2x5000x4_S2x1x1_S2x1x4_2_1_0_0_1_2_114.siIdx (ix3 n 0 q) _)).toInt.toNat (5000 - 1) + 0 + 0 = p.val
    rw [hs, h]; exact clamp_word p.isLt (by norm_num)
  · exact Nat.zero_add _

/-- A start index in range passes jax's negative-index wrap unchanged and lies within its bounds. -/
theorem wrap_word {p : ℕ} (hp : p < 2 ^ 31) (c m : BitVec 32) (hm : (p : ℤ) ≤ m.toInt) :
    Scalar.select (IntOp.cmpi .slt (BitVec.ofNat 32 p) 0#32) (IntOp.addi (BitVec.ofNat 32 p) c) (BitVec.ofNat 32 p) = BitVec.ofNat 32 p
      ∧ IntOp.cmpi .sge (BitVec.ofNat 32 p) 0#32 = 1#1 ∧ IntOp.cmpi .sle (BitVec.ofNat 32 p) m = 1#1 := by
  have ht : (BitVec.ofNat 32 p).toInt = p := by
    rw [BitVec.toInt_ofNat']; simp only [Int.bmod]; omega
  have h0 : (BitVec.ofNat 32 p).slt 0#32 = false := by
    rw [Bool.eq_false_iff, ne_eq, BitVec.slt_iff_toInt_lt, ht]; simp
  have h1 : (0#32 : BitVec 32).sle (BitVec.ofNat 32 p) = true := by
    rw [BitVec.sle_iff_toInt_le, ht]; simp
  have h2 : (BitVec.ofNat 32 p).sle m = true := by
    rw [BitVec.sle_iff_toInt_le, ht]; exact hm
  refine ⟨?_, ?_, ?_⟩
  · simp [IntOp.cmpi, h0, Scalar.select]
  · simp [IntOp.cmpi, h1]
  · simp [IntOp.cmpi, h2]

theorem wrap_5000 (p : Fin 5000) :
    Scalar.select (IntOp.cmpi .slt (BitVec.ofNat 32 p.val) 0#32) (IntOp.addi (BitVec.ofNat 32 p.val) 5000#32) (BitVec.ofNat 32 p.val) = BitVec.ofNat 32 p.val
      ∧ IntOp.cmpi .sge (BitVec.ofNat 32 p.val) 0#32 = 1#1 ∧ IntOp.cmpi .sle (BitVec.ofNat 32 p.val) 4999#32 = 1#1 :=
  wrap_word (by have := p.isLt; omega) _ _ (by
    have h : (4999#32 : BitVec 32).toInt = 4999 := by decide
    have := p.isLt
    omega)

section Trip
variable (j : ℕ) (s : State Ideal) (n : Fin 2) (p : Fin 5000)

theorem b9_apply (h : b1 j s (ix2 n 0) = BitVec.ofNat 32 p.val) : b9 j s (ix3 n 0 0) = BitVec.ofNat 32 p.val := by
  pointwise [b9, b8, b7, b6, b5, b4, b3, b2]
  rw [h]; exact (wrap_5000 p).1

/-- The score the trip reads. -/
theorem b23_apply (h : b1 j s (ix2 n 0) = BitVec.ofNat 32 p.val) : b23 j s (ix2 n 0) = s.main_v304_5 (ix2 n p) := by
  have h9 := b9_apply j s n p h
  have hg : b20 j s (ix2 n 0) = s.main_v304_5 (ix2 n p) := gather_score _ _ n p h9
  obtain ⟨-, hge, hle⟩ := wrap_5000 p
  generalize h20 : b20 j s = x at hg
  generalize hi : b9 j s = y at h9
  pointwise [b23, b22, b21, b19, b18, b17, b16, b15, b14, b13, b12, b11, b10, h20, hi]
  have hx : ∀ x : Fin 1, y (ix3 n 0 x) = BitVec.ofNat 32 p.val := fun x => by rw [Subsingleton.elim x 0, h9]
  simp [hg, hx, hge, hle, Scalar.select, IntOp.andi]

theorem b31_apply (h : b1 j s (ix2 n 0) = BitVec.ofNat 32 p.val) : b31 j s (ix3 n 0 0) = BitVec.ofNat 32 p.val := by
  pointwise [b31, b30, b29, b28, b27, b26, b25, b24]
  rw [h]; exact (wrap_5000 p).1

/-- The box the trip reads. -/
theorem b47_apply (h : b1 j s (ix2 n 0) = BitVec.ofNat 32 p.val) (q : Fin 4) : b47 j s (ix2 n q) = s.main_v304_0 (ix3 n p q) := by
  have h9 := b31_apply j s n p h
  have hg : b42 j s (ix3 n 0 q) = s.main_v304_0 (ix3 n p q) := gather_row _ _ n p q h9
  obtain ⟨-, hge, hle⟩ := wrap_5000 p
  generalize h20 : b42 j s = x at hg
  generalize hi : b31 j s = y at h9
  pointwise [b47, b46, b45, b44, b43, b41, b40, b39, b38, b37, b36, b35, b34, b33, b32, h20, hi]
  have hx : ∀ x : Fin 1, y (ix3 n 0 x) = BitVec.ofNat 32 p.val := fun x => by rw [Subsingleton.elim x 0, h9]
  simp [hg, hx, hge, hle, Scalar.select, IntOp.andi]

theorem b55_apply (h : b1 j s (ix2 n 0) = BitVec.ofNat 32 p.val) : b55 j s (ix3 n 0 0) = BitVec.ofNat 32 p.val := by
  pointwise [b55, b54, b53, b52, b51, b50, b49, b48]
  rw [h]; exact (wrap_5000 p).1

/-- The class the trip reads. -/
theorem b69_apply (h : b1 j s (ix2 n 0) = BitVec.ofNat 32 p.val) : b69 j s (ix2 n 0) = s.main_v304_1 (ix2 n p) := by
  have h9 := b55_apply j s n p h
  have hg : b66 j s (ix2 n 0) = s.main_v304_1 (ix2 n p) := gather_score _ _ n p h9
  obtain ⟨-, hge, hle⟩ := wrap_5000 p
  generalize h20 : b66 j s = x at hg
  generalize hi : b55 j s = y at h9
  pointwise [b69, b68, b67, b65, b64, b63, b62, b61, b60, b59, b58, b57, b56, h20, hi]
  have hx : ∀ x : Fin 1, y (ix3 n 0 x) = BitVec.ofNat 32 p.val := fun x => by rw [Subsingleton.elim x 0, h9]
  simp [hg, hx, hge, hle, Scalar.select, IntOp.andi]

theorem b92_apply (h : b1 j s (ix2 n 0) = BitVec.ofNat 32 p.val) : b92 j s (ix3 n 0 0) = BitVec.ofNat 32 p.val := by
  pointwise [b92, b91, b90, b89, b88, b87, b86, b85]
  rw [h]; exact (wrap_5000 p).1

/-- The shifted box the trip reads. -/
theorem b107_apply (h : b1 j s (ix2 n 0) = BitVec.ofNat 32 p.val) (q : Fin 4) : b107 j s (ix3 n 0 q) = s.main_v304_3 (ix3 n p q) := by
  have h9 := b92_apply j s n p h
  have hg : b103 j s (ix3 n 0 q) = s.main_v304_3 (ix3 n p q) := gather_row _ _ n p q h9
  obtain ⟨-, hge, hle⟩ := wrap_5000 p
  generalize h20 : b103 j s = x at hg
  generalize hi : b92 j s = y at h9
  pointwise [b107, b106, b105, b104, b102, b101, b100, b99, b98, b97, b96, b95, b94, b93, h20, hi]
  have hx : ∀ x : Fin 1, y (ix3 n 0 x) = BitVec.ofNat 32 p.val := fun x => by rw [Subsingleton.elim x 0, h9]
  simp [hg, hx, hge, hle, Scalar.select, IntOp.andi]

/-- The scores the trip leaves. -/
theorem b161_apply (h : b1 j s (ix2 n 0) = BitVec.ofNat 32 p.val) (l : Fin 5000) :
    b161 j s (ix2 n l) = Nms.next (fun q => s.main_v304_3 (ix3 n p q)) (fun q => s.main_v304_3 (ix3 n l q)) (s.main_v304_5 (ix2 n l)) := by
  have h1 := b107_apply j s n p h
  generalize hb : b107 j s = x at h1
  pointwise [b161, b160, b159, b158, b157, b156, b155, b154, b153, b152, b151, b150, b149, b148, b147, b146, b145, b144, b143, b142, b141,
    b140, b139, b138, b137, b136, b135, b134, b133, b132, b131, b130, b129, b128, b127, b126, b125, b124, b123, b122, b121, b120, b119, b118,
    b117, b116, b115, b114, b113, b112, b111, b110, b109, b108, hb]
  simp only [h1, max_comm (0 : EReal)]
  rfl

/-- The row the trip stores. -/
theorem b84_apply (h : b1 j s (ix2 n 0) = BitVec.ofNat 32 p.val) (e : Fin 6) :
    b84 j s (ix2 n e) = Nms.detection (fun q => s.main_v304_0 (ix3 n p q)) (s.main_v304_2 (ix1 n)) (s.main_v304_5 (ix2 n p))
      (FloatOps.sitofp (F := Ideal) .f32 (IntOp.addi (s.main_v304_1 (ix2 n p)) 1#32)) e := by
  have h1 := b23_apply j s n p h
  have h2 := b47_apply j s n p h
  have h3 := b69_apply j s n p h
  generalize e1 : b23 j s = x1 at h1
  generalize e2 : b47 j s = x2 at h2
  generalize e3 : b69 j s = x3 at h3
  pointwise [b84, b83, b82, b81, b80, b79, b78, b77, b76, b75, b74, b73, b72, b71, b70, e1, e2, e3]
  unfold Nms.detection
  rw [h1]
  split
  · fin_cases e <;> simp [h1, h2, h3]
  · rfl

/-- The rows after the trip: the trip's own at its number, and the others as they were. -/
theorem b165_apply (hj : j < 100) (k : Fin 100) (e : Fin 6) :
    b165 j s (ix3 k n e) = if k.val = j then b84 j s (ix2 n e) else s.main_v304_6 (ix3 k n e) := by
  have ht : (BitVec.ofNat 32 j).toInt = j := by
    rw [BitVec.toInt_ofNat']; simp only [Int.bmod]; omega
  obtain ⟨st, hst, h0, h1, h2⟩ : ∃ st : Fin 3 → ℤ, b165 j s = Host.dynamicUpdateSlice (s.main_v304_6) (b162 j s) st updateFits_S100x2x6_S1x2x6
      ∧ st 0 = j ∧ st 1 = 0 ∧ st 2 = 0 := ⟨_, rfl, ht, rfl, rfl⟩
  rw [hst]
  pointwise [b162]
  have c0 : Host.clampedStart S100x2x6 S1x2x6 (by rfl) st 0 = j := by
    show (min (max (st 0) 0) ((100 - 1 : ℕ) : ℤ)).toNat = j
    rw [h0]; omega
  have c1 : Host.clampedStart S100x2x6 S1x2x6 (by rfl) st 1 = 0 := by
    show (min (max (st 1) 0) ((2 - 2 : ℕ) : ℤ)).toNat = 0
    rw [h1]; rfl
  have c2 : Host.clampedStart S100x2x6 S1x2x6 (by rfl) st 2 = 0 := by
    show (min (max (st 2) 0) ((6 - 6 : ℕ) : ℤ)).toNat = 0
    rw [h2]; rfl
  simp only [c0, c1, c2]
  by_cases hk : k.val = j
  · rw [dif_pos (by omega), if_pos hk]; rfl
  · rw [dif_neg (by omega), if_neg hk]

end Trip

end Cert.ReferenceIdeal.Nms
-- ==== Proof.RInit.lean ====
/- The reference's choice of candidates and the state its loop starts from, read at an entry. -/
module

public import proofs.«01_k».proof.Proof.RPick

@[expose] public section

set_option maxRecDepth 16384

noncomputable section

namespace Cert.ReferenceIdeal.Nms

open Idealize.ShloMosaic Cert.ReferenceIdeal Cert.ReferenceIdeal.Gen Cert.ReferenceIdeal.Step

/-- The host's division and remainder by twenty of a small non-negative word. -/
theorem div_twenty {p : ℕ} (hp : p < 552420) : IntOp.divsi .host (BitVec.ofNat 32 p) 20#32 = BitVec.ofNat 32 (p / 20)
    ∧ IntOp.remsi .host (BitVec.ofNat 32 p) 20#32 = BitVec.ofNat 32 (p % 20) := by
  have hc : ¬ IntOp.SDivCorner (BitVec.ofNat 32 p) 20#32 := by
    rintro (h | ⟨-, h⟩)
    · exact absurd h (by decide)
    · exact absurd h (by decide)
  have hm : (BitVec.ofNat 32 p).msb = false := by
    rw [BitVec.msb_eq_false_iff_two_mul_lt, BitVec.toNat_ofNat]; omega
  have hm' : (20#32 : BitVec 32).msb = false := by decide
  constructor
  · rw [IntOp.divsi, if_neg hc, BitVec.sdiv, hm, hm']
    refine BitVec.eq_of_toNat_eq ?_
    simp [BitVec.toNat_udiv]
    omega
  · rw [IntOp.remsi, if_neg hc, BitVec.srem, hm, hm']
    refine BitVec.eq_of_toNat_eq ?_
    simp [BitVec.toNat_umod]
    omega

theorem gather_classes {α : Type} (x : S2x27621x20.Idx → α) (idx : IVec S2x5000x1 32) (n : Fin 2) (l : Fin 5000) (c : Fin 20) (p : Fin 27621)
    (h : idx (ix3 n l 0) = BitVec.ofNat 32 p.val) :
    Host.gather gather_S2x27621x20_S2x5000x1_S2x5000x20_2_1_0_0_1_2_1120 x idx (ix3 n l c) = x (ix3 n p c) := by
  refine congrArg x (funext fun a => Fin.ext ?_)
  have hs : ∀ e, gather_S2x27621x20_S2x5000x1_S2x5000x20_2_1_0_0_1_2_1120.siIdx (ix3 n l c) e = ix3 n l 0 := by
    intro e; funext b; fin_cases b
    · rfl
    · rfl
    · exact Subsingleton.elim (α := Fin 1) _ _
  fin_cases a
  · exact Nat.zero_add _
  · show min (idx (gather_S2x27621x20_S2x5000x1_S2x5000x20_2_1_0_0_1_2_1120.siIdx (ix3 n l c) _)).toInt.toNat (27621 - 1) + 0 + 0 = p.val
    rw [hs, h]; exact clamp_word p.isLt (by norm_num)
  · exact Nat.zero_add _

theorem gather_class {α : Type} (x : S2x5000x20.Idx → α) (idx : IVec S2x5000x1x1 32) (n : Fin 2) (l : Fin 5000) (p : Fin 20)
    (h : idx (ix4 n l 0 0) = BitVec.ofNat 32 p.val) :
    Host.gather gather_S2x5000x20_S2x5000x1x1_S2x5000x1_n_2_01_01_2_3_111 x idx (ix3 n l 0) = x (ix3 n l p) := by
  refine congrArg x (funext fun a => Fin.ext ?_)
  have hs : ∀ e, gather_S2x5000x20_S2x5000x1x1_S2x5000x1_n_2_01_01_2_3_111.siIdx (ix3 n l 0) e = ix4 n l 0 0 := by
    intro e; funext b; fin_cases b
    · rfl
    · rfl
    · rfl
    · exact Subsingleton.elim (α := Fin 1) _ _
  fin_cases a
  · exact Nat.zero_add _
  · exact Nat.zero_add _
  · show min (idx (gather_S2x5000x20_S2x5000x1x1_S2x5000x1_n_2_01_01_2_3_111.siIdx (ix3 n l 0) _)).toInt.toNat (20 - 1) + 0 + 0 = p.val
    rw [hs, h]; exact clamp_word p.isLt (by norm_num)

section
variable (a0 : (⟨S2x1620x48x48, .f32⟩ : BufTy).Contents (Elt Ideal)) (a1 : (⟨S2x1620x24x24, .f32⟩ : BufTy).Contents (Elt Ideal))
  (a2 : (⟨S2x1620x12x12, .f32⟩ : BufTy).Contents (Elt Ideal)) (a3 : (⟨S2x1620x6x6, .f32⟩ : BufTy).Contents (Elt Ideal))
  (a4 : (⟨S2x1620x3x3, .f32⟩ : BufTy).Contents (Elt Ideal)) (a5 : (⟨S2x324x48x48, .f32⟩ : BufTy).Contents (Elt Ideal))
  (a6 : (⟨S2x324x24x24, .f32⟩ : BufTy).Contents (Elt Ideal)) (a7 : (⟨S2x324x12x12, .f32⟩ : BufTy).Contents (Elt Ideal))
  (a8 : (⟨S2x324x6x6, .f32⟩ : BufTy).Contents (Elt Ideal)) (a9 : (⟨S2x324x3x3, .f32⟩ : BufTy).Contents (Elt Ideal))
  (a10 : (⟨S27621x4, .f32⟩ : BufTy).Contents (Elt Ideal))

/-- The flat index of a candidate, and its logit. -/
theorem candidate (n : Fin 2) (l : Fin 5000) : ∃ p : Fin 552420, A_main_indices a0 a1 a2 a3 a4 a5 a6 a7 a8 a9 a10 (ix2 n l) = BitVec.ofNat 32 p.val
    ∧ (Host.topK S2x5000 1 (FloatOps.cmpfTotal (F := Ideal) (φ := .f32) .gt) (A_main_v212 a0 a1 a2 a3 a4 a5 a6 a7 a8 a9 a10) sliceFits_S2x552420_S2x5000).1 (ix2 n l)
      = A_main_v105 a0 a1 a2 a3 a4 a5 a6 a7 a8 a9 a10 (ix3 n ⟨p.val / 20, by have := p.isLt; omega⟩ ⟨p.val % 20, by omega⟩) := by
  obtain ⟨p, hv, hi, -⟩ := topK_apply (n := 552420) (k := 5000) (A_main_v212 a0 a1 a2 a3 a4 a5 a6 a7 a8 a9 a10) sliceFits_S2x552420_S2x5000 n l
  refine ⟨p, hi, hv.trans ?_⟩
  pointwise [A_main_v212]

variable (n : Fin 2) (l : Fin 5000) (p : Fin 552420) (h : A_main_indices a0 a1 a2 a3 a4 a5 a6 a7 a8 a9 a10 (ix2 n l) = BitVec.ofNat 32 p.val)
include h

/-- A candidate's anchor number. -/
theorem v213_apply : A_main_v213 a0 a1 a2 a3 a4 a5 a6 a7 a8 a9 a10 (ix2 n l) = BitVec.ofNat 32 (p.val / 20) := by
  generalize hw : A_main_indices a0 a1 a2 a3 a4 a5 a6 a7 a8 a9 a10 = w at h
  pointwise [A_main_v213, A_main_call0_v13, A_main_call0_v11, A_main_call0_v10, A_main_call0_v8, A_main_call0_v6, A_main_call0_v3, A_main_call0_v2,
    K_main_call0_v12, K_main_call0_c_0, K_main_call0_v9, K_main_call0_c, K_main_call0_v7, K_main_call0_v5, K_main_call0_v4, K_main_call0_v1,
    K_main_call0_v0, K_main_c, hw]
  have h20 : id (constantI S_ 32 20#32) ix0 = 20#32 := rfl
  obtain ⟨hd, hr⟩ := div_twenty p.isLt
  rw [h, h20, hd, hr]
  have hm : (BitVec.ofNat 32 p.val).msb = false := by
    rw [BitVec.msb_eq_false_iff_two_mul_lt, BitVec.toNat_ofNat]; have := p.isLt; omega
  have hm' : (20#32 : BitVec 32).msb = false := by decide
  have hn : (20#32 : BitVec 32) ≠ 0 := by decide
  rw [hm, hm', if_neg hn]
  by_cases h0 : BitVec.ofNat 32 p.val = 0
  · have : p.val = 0 := by
      have := congrArg BitVec.toNat h0
      simp at this; have := p.isLt; omega
    simp [this, IntOp.cmpi, IntOp.andi, Scalar.select]
  · rw [if_neg h0]
    simp [IntOp.cmpi, IntOp.andi, Scalar.select]

/-- A candidate's class number. -/
theorem v215_apply : A_main_v215 a0 a1 a2 a3 a4 a5 a6 a7 a8 a9 a10 (ix2 n l) = BitVec.ofNat 32 (p.val % 20) := by
  generalize hw : A_main_indices a0 a1 a2 a3 a4 a5 a6 a7 a8 a9 a10 = w at h
  pointwise [A_main_v215, K_main_v214, K_main_c_39, hw]
  rw [h]; exact (div_twenty p.isLt).2

/-- The logits of a candidate's anchor. -/
theorem v219_apply (c : Fin 20) : A_main_v219 a0 a1 a2 a3 a4 a5 a6 a7 a8 a9 a10 (ix3 n l c) = A_main_v105 a0 a1 a2 a3 a4 a5 a6 a7 a8 a9 a10 (ix3 n ⟨p.val / 20, by have := p.isLt; omega⟩ c) := by
  have h0 := v213_apply a0 a1 a2 a3 a4 a5 a6 a7 a8 a9 a10 n l p h
  have hb : p.val / 20 < 27621 := by have := p.isLt; omega
  obtain ⟨hw, hge, hle⟩ := wrap_word (p := p.val / 20) (by omega) 27621#32 27620#32
    (by have h : (27620#32 : BitVec 32).toInt = 27620 := by decide
        omega)
  have h4 : A_main_call2_v4 a0 a1 a2 a3 a4 a5 a6 a7 a8 a9 a10 (ix3 n l 0) = BitVec.ofNat 32 (p.val / 20) := by
    generalize e : A_main_v213 a0 a1 a2 a3 a4 a5 a6 a7 a8 a9 a10 = w at h0
    pointwise [A_main_call2_v4, A_main_call2_v3, A_main_call2_v1, A_main_v218, K_main_call2_v2, K_main_call2_c_0, K_main_call2_v0, K_main_call2_c, e]
    rw [h0]; exact hw
  have hg : A_main_call2_v12 a0 a1 a2 a3 a4 a5 a6 a7 a8 a9 a10 (ix3 n l c) = _ := gather_classes _ _ n l c ⟨p.val / 20, hb⟩ h4
  generalize e1 : A_main_call2_v12 a0 a1 a2 a3 a4 a5 a6 a7 a8 a9 a10 = x at hg
  generalize e2 : A_main_call2_v4 a0 a1 a2 a3 a4 a5 a6 a7 a8 a9 a10 = y at h4
  pointwise [A_main_v219, A_main_call2_v13, A_main_call2_v11, A_main_call2_v10, A_main_call2_v9, A_main_call2_v6, K_main_call2_v14, K_main_call2_cst,
    K_main_call2_c_3, K_main_call2_v8, K_main_call2_v7, K_main_call2_c_1, K_main_call2_v5, K_main_call2_c_2, e1, e2]
  have hx : ∀ x : Fin 1, y (ix3 n l x) = BitVec.ofNat 32 (p.val / 20) := fun x => by rw [Subsingleton.elim x 0, h4]
  simp [hg, hx, hge, hle, Scalar.select, IntOp.andi]

/-- A candidate's logit. -/
theorem v221_apply : A_main_v221 a0 a1 a2 a3 a4 a5 a6 a7 a8 a9 a10 (ix3 n l 0)
    = A_main_v105 a0 a1 a2 a3 a4 a5 a6 a7 a8 a9 a10 (ix3 n ⟨p.val / 20, by have := p.isLt; omega⟩ ⟨p.val % 20, by omega⟩) := by
  have h0 := v215_apply a0 a1 a2 a3 a4 a5 a6 a7 a8 a9 a10 n l p h
  obtain ⟨hw, hge, hle⟩ := wrap_word (p := p.val % 20) (by omega) 20#32 19#32
    (by have h : (19#32 : BitVec 32).toInt = 19 := by decide
        omega)
  have h4 : A_main_call3_v5 a0 a1 a2 a3 a4 a5 a6 a7 a8 a9 a10 (ix4 n l 0 0) = BitVec.ofNat 32 (p.val % 20) := by
    generalize e : A_main_v215 a0 a1 a2 a3 a4 a5 a6 a7 a8 a9 a10 = w at h0
    pointwise [A_main_call3_v5, A_main_call3_v4, A_main_call3_v3, A_main_call3_v1, A_main_v220, K_main_call3_v2, K_main_call3_c_0, K_main_call3_v0, K_main_call3_c, e]
    rw [h0]; exact hw
  have hg : A_main_call3_v13 a0 a1 a2 a3 a4 a5 a6 a7 a8 a9 a10 (ix3 n l 0) = _ := (gather_class _ _ n l ⟨p.val % 20, by omega⟩ h4).trans (v219_apply a0 a1 a2 a3 a4 a5 a6 a7 a8 a9 a10 n l p h _)
  generalize e1 : A_main_call3_v13 a0 a1 a2 a3 a4 a5 a6 a7 a8 a9 a10 = x at hg
  generalize e2 : A_main_call3_v5 a0 a1 a2 a3 a4 a5 a6 a7 a8 a9 a10 = y at h4
  pointwise [A_main_v221, A_main_call3_v12, A_main_call3_v11, A_main_call3_v10, A_main_call3_v7, K_main_call3_v14, K_main_call3_cst,
    K_main_call3_c_3, K_main_call3_v9, K_main_call3_v8, K_main_call3_c_1, K_main_call3_v6, K_main_call3_c_2, e1, e2]
  have hx : ∀ x : Fin 1, y (ix4 n l 0 x) = BitVec.ofNat 32 (p.val % 20) := fun x => by rw [Subsingleton.elim x 0, h4]
  simp [hg, hx, hge, hle, Scalar.select, IntOp.andi]

omit h

/-- A candidate's score is the logistic of its logit. -/
theorem v292_apply : A_main_v292 a0 a1 a2 a3 a4 a5 a6 a7 a8 a9 a10 (ix2 n l) = Ideal.logistic (A_main_v221 a0 a1 a2 a3 a4 a5 a6 a7 a8 a9 a10 (ix3 n l 0)) := by
  generalize hw : A_main_v221 a0 a1 a2 a3 a4 a5 a6 a7 a8 a9 a10 = w
  pointwise [A_main_v292, A_main_v290, A_main_v288, A_main_v287, A_main_v286, K_main_v291, K_main_v289, K_main_cst_48, K_main_cst_49, hw]
  rfl

/-- A candidate's box. -/
theorem v285_apply (c : Fin 4) : A_main_v285 a0 a1 a2 a3 a4 a5 a6 a7 a8 a9 a10 (ix3 n l c)
    = Nms.corner (fun c => A_main_v217 a0 a1 a2 a3 a4 a5 a6 a7 a8 a9 a10 (ix3 n l c)) (fun c => A_main_v228 a0 a1 a2 a3 a4 a5 a6 a7 a8 a9 a10 (ix3 n l c)) c := by
  generalize hw : A_main_v217 a0 a1 a2 a3 a4 a5 a6 a7 a8 a9 a10 = w
  generalize hv : A_main_v228 a0 a1 a2 a3 a4 a5 a6 a7 a8 a9 a10 = v
  fin_cases c
  all_goals
    pointwise [A_main_v285, A_main_v281, A_main_v282, A_main_v283, A_main_v284, A_main_v280, A_main_v279, A_main_v277, A_main_v276, A_main_v274,
      A_main_v273, A_main_v271, A_main_v270, A_main_v268, A_main_v267, A_main_v266, A_main_v265, A_main_v264, A_main_v263, A_main_v262, A_main_v261,
      A_main_v260, A_main_v259, A_main_v258, A_main_v257, A_main_v256, A_main_v255, A_main_v254, A_main_v253, A_main_v252, A_main_v251, A_main_v250,
      A_main_v249, A_main_v248, A_main_v247, A_main_v246, A_main_v245, A_main_v244, A_main_v243, A_main_v242, A_main_v240, A_main_v239, A_main_v238,
      A_main_v237, A_main_v236, A_main_v235, A_main_v233, A_main_v232, A_main_v231, A_main_v230, A_main_v229, K_main_v269, K_main_v272, K_main_v275,
      K_main_v278, K_main_v241, K_main_v234, K_main_cst_42, K_main_cst_43, K_main_cst_44, K_main_cst_45, K_main_cst_46, K_main_cst_47, hw, hv]
    try rfl

/-- The greatest coordinate of a batch's boxes is their least bound. -/
theorem v293_le_iff (z : EReal) : (A_main_v293 a0 a1 a2 a3 a4 a5 a6 a7 a8 a9 a10 (ix1 n) : EReal) ≤ z ↔ ∀ (l : Fin 5000) (c : Fin 4), (A_main_v285 a0 a1 a2 a3 a4 a5 a6 a7 a8 a9 a10 (ix3 n l c) : EReal) ≤ z := by
  generalize hw : A_main_v285 a0 a1 a2 a3 a4 a5 a6 a7 a8 a9 a10 = w
  have e : (A_main_v293 a0 a1 a2 a3 a4 a5 a6 a7 a8 a9 a10 (ix1 n) : EReal)
      = (Finset.univ : Finset (Fin 5000 × Fin 4)).fold max (Ideal.ofBits FTy.f32 0xFF800000#32) fun x => (w (ix3 n x.1 x.2) : EReal) := by
    pointwise [A_main_v293, K_main_cst_50, hw]
  rw [e, Finset.fold_max_le]
  simp only [Finset.mem_univ, forall_true_left, Prod.forall]
  exact and_iff_right (by simp [Ideal.ofBits, Ideal.ieee])

/-- A candidate's shifted box. -/
theorem v302_apply (c : Fin 4) : A_main_v302 a0 a1 a2 a3 a4 a5 a6 a7 a8 a9 a10 (ix3 n l c) = (A_main_v285 a0 a1 a2 a3 a4 a5 a6 a7 a8 a9 a10 (ix3 n l c) : EReal)
    + (FloatOps.sitofp (F := Ideal) .f32 (A_main_v215 a0 a1 a2 a3 a4 a5 a6 a7 a8 a9 a10 (ix2 n l)) : EReal) * ((A_main_v293 a0 a1 a2 a3 a4 a5 a6 a7 a8 a9 a10 (ix1 n) : EReal) + 1) := by
  generalize h1 : A_main_v285 a0 a1 a2 a3 a4 a5 a6 a7 a8 a9 a10 = w
  generalize h2 : A_main_v215 a0 a1 a2 a3 a4 a5 a6 a7 a8 a9 a10 = k
  generalize h3 : A_main_v293 a0 a1 a2 a3 a4 a5 a6 a7 a8 a9 a10 = m
  pointwise [A_main_v302, A_main_v301, A_main_v300, A_main_v299, A_main_v298, A_main_v297, A_main_v296, A_main_v294, K_main_v295, K_main_cst_51, h1, h2, h3]

end

end Cert.ReferenceIdeal.Nms
-- ==== Proof.Pick.lean ====
/- What a trip of the kernel picks: the greatest score's first lane. The mask the kernel builds is one on that lane and zero elsewhere,
   so a sum of a plane against the mask reads the plane there. -/
module

public import proofs.«01_k».proof.Proof.Trip
public import Idealize.ShloMosaic.Lib.Pointwise
public import Idealize.ShloMosaic.PureOps.Ideal.Laws

@[expose] public section

set_option maxRecDepth 16384

noncomputable section

namespace Cert.KernelIdeal.Nms

open Idealize.ShloMosaic Cert.KernelIdeal Cert.KernelIdeal.Gen

/-- A maximum over all entries that is attained at `x` is the entry there. -/
theorem fold_max_eq {ι : Type} [Fintype ι] (f : ι → EReal) (b : EReal) (x : ι) (hb : b ≤ f x) (h : ∀ y, f y ≤ f x) :
    Finset.univ.fold max b f = f x :=
  le_antisymm ((Finset.fold_max_le _).2 ⟨hb, fun y _ => h y⟩) ((Finset.le_fold_max _).2 (.inr ⟨x, Finset.mem_univ _, le_rfl⟩))

/-- A fold of the signed minimum is one of the words folded, and none of them is below it. -/
theorem fold_minsi_spec {ι : Type} [DecidableEq ι] (f : ι → BitVec 32) (b : BitVec 32) (S : Finset ι) :
    (S.fold IntOp.minsi b f = b ∨ ∃ y ∈ S, S.fold IntOp.minsi b f = f y) ∧ (S.fold IntOp.minsi b f).toInt ≤ b.toInt
      ∧ ∀ y ∈ S, (S.fold IntOp.minsi b f).toInt ≤ (f y).toInt := by
  induction S using Finset.induction_on with
  | empty => simp
  | insert a S ha ih =>
    rw [Finset.fold_insert ha]
    obtain ⟨h1, h2, h3⟩ := ih
    have hm : ∀ u v : BitVec 32, (IntOp.minsi u v = u ∧ u.toInt ≤ v.toInt) ∨ (IntOp.minsi u v = v ∧ v.toInt ≤ u.toInt) := by
      intro u v
      unfold IntOp.minsi
      by_cases h : u.slt v = true
      · refine .inl ⟨by simp [h], ?_⟩
        rw [BitVec.slt_iff_toInt_lt] at h; omega
      · refine .inr ⟨by simp [h], ?_⟩
        rw [BitVec.slt_iff_toInt_lt] at h; omega
    rcases hm (f a) (S.fold IntOp.minsi b f) with ⟨e, hle⟩ | ⟨e, hle⟩
    · rw [e]
      refine ⟨.inr ⟨a, Finset.mem_insert_self _ _, rfl⟩, by omega, fun y hy => ?_⟩
      rcases Finset.mem_insert.1 hy with rfl | hy
      · exact le_rfl
      · exact le_trans hle (h3 y hy)
    · rw [e]
      refine ⟨?_, h2, fun y hy => ?_⟩
      · rcases h1 with h1 | ⟨y, hy, h1⟩
        · exact .inl h1
        · exact .inr ⟨y, Finset.mem_insert_of_mem hy, h1⟩
      · rcases Finset.mem_insert.1 hy with rfl | hy
        · exact hle
        · exact h3 y hy

/-- The lane id of row `a` and column `b`, as the kernel computes it. -/
def laneWord (a : Fin 40) (b : Fin 128) : BitVec 32 := IntOp.addi (IntOp.muli (BitVec.ofNat 32 a.val) 128#32) (BitVec.ofNat 32 b.val)

theorem laneWord_eq (a : Fin 40) (b : Fin 128) : laneWord a b = BitVec.ofNat 32 (a.val * 128 + b.val) := by
  simp [laneWord, IntOp.addi, IntOp.muli, BitVec.ofNat_add, BitVec.ofNat_mul]

theorem laneWord_toInt (a : Fin 40) (b : Fin 128) : (laneWord a b).toInt = a.val * 128 + b.val := by
  rw [laneWord_eq, BitVec.toInt_ofNat']
  have := a.isLt; have := b.isLt
  simp only [Int.bmod]
  omega

/-- Lane `(i, j)` carries the greatest score and is the first that does. -/
structure Leads (s : Vec Ideal S1x40x128 .f32) (i : Fin 40) (j : Fin 128) : Prop where
  le : ∀ a b, (s (ix3 0 a b) : EReal) ≤ s (ix3 0 i j)
  lt : ∀ a b, a.val * 128 + b.val < i.val * 128 + j.val → (s (ix3 0 a b) : EReal) < s (ix3 0 i j)

/-- The kernel's mask at the leading lane. -/
theorem mask_apply {s : Vec Ideal S1x40x128 .f32} {i : Fin 40} {j : Fin 128} (h : Leads s i j) (a : Fin 40) (b : Fin 128) :
    k0_pay3 k0_pay31 s (ix2 a b) = (if a = i ∧ b = j then (1 : EReal) else 0) := by
  have hmax : (Finset.univ : Finset (Fin 40 × Fin 128)).fold max (Ideal.ofBits FTy.f32 4286578688#32) (fun x => (s (ix3 0 x.1 x.2) : EReal))
      = s (ix3 0 i j) :=
    fold_max_eq (fun x : Fin 40 × Fin 128 => (s (ix3 0 x.1 x.2) : EReal)) _ (i, j) (by simp [Ideal.ofBits, Ideal.ieee]) fun y => h.le _ _
  set g : Fin 40 × Fin 128 → BitVec 32 := fun x => if (s (ix3 0 x.1 x.2) : EReal) = s (ix3 0 i j) then laneWord x.1 x.2 else 1073741824#32 with hg
  have hmin : (Finset.univ : Finset (Fin 40 × Fin 128)).fold IntOp.minsi (2147483647#32) g = laneWord i j := by
    obtain ⟨h1, h2, h3⟩ := fold_minsi_spec g 2147483647#32 Finset.univ
    have hij := h3 (i, j) (Finset.mem_univ _)
    have hgij : g (i, j) = laneWord i j := by simp [hg]
    rw [hgij] at hij
    have hb := laneWord_toInt i j
    have := i.isLt; have := j.isLt
    refine BitVec.eq_of_toInt_eq (le_antisymm hij ?_)
    rcases h1 with h1 | ⟨y, -, h1⟩ <;> rw [h1] at hij ⊢
    · have : (2147483647#32 : BitVec 32).toInt = 2147483647 := by decide
      omega
    · simp only [hg] at hij ⊢
      split at hij
      · next hy =>
        rw [if_pos hy, laneWord_toInt, laneWord_toInt]
        by_contra hlt
        exact absurd hy (ne_of_lt (h.lt _ _ (by omega)))
      · have : (1073741824#32 : BitVec 32).toInt = 1073741824 := by decide
        omega
  have key : k0_pay3 k0_pay31 s (ix2 a b) = FloatOps.sitofp (F := Ideal) FTy.f32 (BitVec.setWidth 32 (IntOp.cmpi CmpIPredicate.eq (laneWord a b) (laneWord i j))) := by
    rw [← hmin, hg, ← hmax]
    pointwise [k0_pay3, k0_pay31, k0_pay2]
    rfl
  rw [key]
  by_cases hab : a = i ∧ b = j
  · obtain ⟨rfl, rfl⟩ := hab
    simp [IntOp.cmpi, FloatOps.sitofp]
  · have : laneWord a b ≠ laneWord i j := by
      intro e
      have e' := congrArg BitVec.toInt e
      rw [laneWord_toInt, laneWord_toInt] at e'
      have := b.isLt; have := j.isLt
      exact hab ⟨Fin.ext (by omega), Fin.ext (by omega)⟩
    rw [if_neg hab]
    have hb : (laneWord a b == laneWord i j) = false := by simpa using this
    simp [IntOp.cmpi, hb, FloatOps.sitofp]

/-- A plane summed against the mask of the leading lane is the plane there. -/
theorem sum_mask {s : Vec Ideal S1x40x128 .f32} {i : Fin 40} {j : Fin 128} (h : Leads s i j) (f : Fin 40 → Fin 128 → EReal) :
    ∑ a, ∑ b, f a b * (k0_pay3 k0_pay31 s (ix2 a b) : EReal) = f i j := by
  simp only [mask_apply h, mul_ite, mul_one, mul_zero, ite_and]
  simp

end Cert.KernelIdeal.Nms
-- ==== Proof.KTrip.lean ====
/- The kernel's trip, read at an entry: the scores it leaves and the row it stores, when the greatest score's first lane is known. -/
module

public import proofs.«01_k».proof.Proof.Pick
public import proofs.«01_k».proof.Proof.KBody
public import proofs.«01_k».proof.Proof.Spec

@[expose] public section

set_option maxRecDepth 16384

noncomputable section

namespace Cert.KernelIdeal.Nms

open Idealize.ShloMosaic Cert.KernelIdeal Cert.KernelIdeal.Gen Cert.Nms

/-- The shifted box of a lane. -/
def shifted (q : Planes Ideal) (a : Fin 40) (b : Fin 128) : Fin 4 → EReal := ![q 6 (ix3 0 a b), q 7 (ix3 0 a b), q 8 (ix3 0 a b), q 9 (ix3 0 a b)]

/-- The box of a lane. -/
def boxAt (q : Planes Ideal) (a : Fin 40) (b : Fin 128) : Fin 4 → EReal := ![q 2 (ix3 0 a b), q 3 (ix3 0 a b), q 4 (ix3 0 a b), q 5 (ix3 0 a b)]

theorem newScores_apply (q : Planes Ideal) (i : Fin 40) (j : Fin 128) (h : Leads (q 0) i j)
    (harea : ∀ a b, q 10 (ix3 0 a b) = Nms.area (shifted q a b)) (a : Fin 40) (b : Fin 128) :
    newScores k0_pay31 q (ix3 0 a b) = Nms.next (shifted q i j) (shifted q a b) (q 0 (ix3 0 a b)) := by
  have hp : ∀ c, ∑ x, ∑ y, (q c (ix3 0 x y) : EReal) * (k0_pay3 k0_pay31 (q 0) (ix2 x y) : EReal) = q c (ix3 0 i j) :=
    fun c => sum_mask h fun x y => q c (ix3 0 x y)
  pointwise [newScores, k0_pay16, k0_pay2, k0_pay14, k0_pay15, k0_pay11, k0_pay12, k0_pay13, pick]
  simp only [hp]
  simp only [harea]
  rfl

theorem row_apply (sc : EReal) (q : Planes Ideal) (i : Fin 40) (j : Fin 128) (h : Leads (q 0) i j) (e : Fin 6) :
    row sc k0_pay31 lanes q (ix3 0 0 ⟨e.val, by have := e.isLt; omega⟩)
      = Nms.detection (boxAt q i j) sc (q 0 (ix3 0 i j)) ((q 1 (ix3 0 i j) : EReal) + 1) e := by
  have hp : ∀ c, ∑ x, ∑ y, (q c (ix3 0 x y) : EReal) * (k0_pay3 k0_pay31 (q 0) (ix2 x y) : EReal) = q c (ix3 0 i j) :=
    fun c => sum_mask h fun x y => q c (ix3 0 x y)
  pointwise [row, k0_pay1, k0_pay4, k0_pay5, k0_pay6, k0_pay8, k0_pay7, k0_pay9, k0_pay10, k0_pay17, k0_pay18, k0_pay19, pick, k0_pay2]
  simp only [hp]
  unfold Nms.detection
  split
  · fin_cases e
    all_goals
      pointwise [lanes]
      try rfl
  · rfl

end Cert.KernelIdeal.Nms
-- ==== Proof.Couple.lean ====
/- The kernel's hundred trips over one block and the reference's hundred over the state compute the same detections, when the kernel's
   planes and the reference's state start alike. -/
module

public import proofs.«01_k».proof.Proof.KTrip
public import proofs.«01_k».proof.Proof.RPick

@[expose] public section

set_option maxRecDepth 16384

noncomputable section

namespace Cert.Nms

open Idealize.ShloMosaic Cert.ReferenceIdeal.Step Cert.KernelIdeal.Nms Cert.ReferenceIdeal.Nms
open Cert.KernelIdeal.Gen (k0_pay31)

/-- The score a suppressed entry is given. -/
abbrev low : EReal := Ideal.ofBits FTy.f32 0xC61C4000#32

/-- The row and the column of a lane. -/
def laneRow (l : Fin 5000) : Fin 40 := ⟨l.val / 128, by have := l.isLt; omega⟩
def laneCol (l : Fin 5000) : Fin 128 := ⟨l.val % 128, by omega⟩

/-- Every lane below 5000 is the lane of its number. -/
theorem lane_of (a : Fin 40) (b : Fin 128) (h : a.val * 128 + b.val < 5000) :
    ∃ l : Fin 5000, l.val = a.val * 128 + b.val ∧ a = laneRow l ∧ b = laneCol l := by
  have := b.isLt
  exact ⟨⟨_, h⟩, rfl, Fin.ext (by simp only [laneRow]; omega), Fin.ext (by simp only [laneCol]; omega)⟩

theorem lane_num (l : Fin 5000) : (laneRow l).val * 128 + (laneCol l).val = l.val := by
  simp only [laneRow, laneCol]; omega

/-- The kernel's planes hold batch `n` of the reference's state, and nothing above the floor on the lanes past the 5000. -/
structure Agrees (q : Planes Ideal) (s : State Ideal) (n : Fin 2) : Prop where
  score : ∀ l, (q 0 (ix3 0 (laneRow l) (laneCol l)) : EReal) = s.main_v304_5 (ix2 n l)
  pad : ∀ (a : Fin 40) (b : Fin 128), 5000 ≤ a.val * 128 + b.val → (q 0 (ix3 0 a b) : EReal) ≤ low
  floor : ∀ l, low ≤ (s.main_v304_5 (ix2 n l) : EReal)
  cls : ∀ l, (q 1 (ix3 0 (laneRow l) (laneCol l)) : EReal) + 1
    = FloatOps.sitofp (F := Ideal) .f32 (IntOp.addi (s.main_v304_1 (ix2 n l)) 1#32)
  box : ∀ l, boxAt q (laneRow l) (laneCol l) = fun c => s.main_v304_0 (ix3 n l c)
  nms : ∀ l, shifted q (laneRow l) (laneCol l) = fun c => s.main_v304_3 (ix3 n l c)
  area : ∀ a b, q 10 (ix3 0 a b) = area (shifted q a b)

variable {q : Planes Ideal} {s : State Ideal} {n : Fin 2}

/-- The reference's pick. -/
theorem exists_first (s : State Ideal) (n : Fin 2) (j : ℕ) : ∃ p : Fin 5000, First (fun l => (s.main_v304_5 (ix2 n l) : EReal)) p
    ∧ b1 j s (ix2 n 0) = BitVec.ofNat 32 p.val := by
  obtain ⟨p, -, hi, hf⟩ := topK_apply (n := 5000) (k := 1) s.main_v304_5 Cert.ReferenceIdeal.Gen.sliceFits_S2x5000_S2x1 n 0
  exact ⟨p, hf rfl, hi⟩

/-- The kernel's pick is the reference's. -/
theorem Agrees.leads (h : Agrees q s n) {p : Fin 5000} (hp : First (fun l => (s.main_v304_5 (ix2 n l) : EReal)) p) :
    Leads (q 0) (laneRow p) (laneCol p) := by
  have hle : ∀ a b, (q 0 (ix3 0 a b) : EReal) ≤ q 0 (ix3 0 (laneRow p) (laneCol p)) := by
    intro a b
    rw [h.score p]
    by_cases hl : a.val * 128 + b.val < 5000
    · obtain ⟨l, -, rfl, rfl⟩ := lane_of a b hl
      rw [h.score]; exact hp.1 _
    · exact (h.pad a b (by omega)).trans (h.floor p)
  refine ⟨hle, fun a b hlt => ?_⟩
  rw [lane_num] at hlt
  have hl : a.val * 128 + b.val < 5000 := by have := p.isLt; omega
  obtain ⟨l, hl', rfl, rfl⟩ := lane_of a b hl
  rw [h.score, h.score]
  exact hp.2 _ (Fin.lt_def.2 (by omega))

theorem next_ge {a b : Fin 4 → EReal} {x : EReal} (h : low ≤ x) : low ≤ next a b x := by
  unfold next; split
  · exact le_rfl
  · exact h

theorem next_le {a b : Fin 4 → EReal} {x : EReal} (h : x ≤ low) : next a b x ≤ low := by
  unfold next; split
  · exact le_rfl
  · exact h

/-- A trip keeps the agreement. -/
theorem Agrees.step (h : Agrees q s n) (j : ℕ) :
    Agrees (Function.update q 0 (newScores k0_pay31 q)) (step j s) n := by
  obtain ⟨p, hp, hi⟩ := exists_first s n j
  have hL := h.leads hp
  have hk := newScores_apply q _ _ hL h.area
  have hr := b161_apply j s n p hi
  have hs : shifted (Function.update q 0 (newScores k0_pay31 q)) = shifted q := rfl
  refine ⟨fun l => ?_, fun a b hl => ?_, fun l => ?_, h.cls, h.box, h.nms, h.area⟩
  · refine (hk _ _).trans (Eq.trans ?_ (hr l).symm)
    rw [h.nms, h.nms, h.score]
  · exact (hk a b).le.trans (next_le (h.pad a b hl))
  · exact (next_ge (h.floor l)).trans (hr l).ge

/-- The trip's detection. -/
theorem Agrees.row (h : Agrees q s n) (j : ℕ) (e : Fin 6) :
    Cert.KernelIdeal.Nms.row (s.main_v304_2 (ix1 n)) k0_pay31 lanes q (ix3 0 0 ⟨e.val, by have := e.isLt; omega⟩) = b84 j s (ix2 n e) := by
  obtain ⟨p, hp, hi⟩ := exists_first s n j
  rw [row_apply _ q _ _ (h.leads hp) e, b84_apply j s n p hi e, h.box, h.score, h.cls]

theorem Agrees.iter (h : Agrees q s n) (k : ℕ) : Agrees (planesAt k0_pay31 q k) (iter s k) n := by
  induction k with
  | zero => exact h
  | succ k ih => exact ih.step k

theorem iter_scale (s : State Ideal) (k : ℕ) : (iter s k).main_v304_2 = s.main_v304_2 := by
  induction k with
  | zero => rfl
  | succ k ih => exact ih

/-- A row once stored stays. -/
theorem iter_rows (s : State Ideal) (n : Fin 2) (e : Fin 6) (N : ℕ) (hN : N ≤ 100) (k : Fin 100) (hk : k.val < N) :
    (iter s N).main_v304_6 (ix3 k n e) = b84 k.val (iter s k.val) (ix2 n e) := by
  induction N with
  | zero => omega
  | succ N ih =>
    refine (b165_apply N (iter s N) n (by omega) k e).trans ?_
    by_cases h : k.val = N
    · rw [if_pos h, h]
    · rw [if_neg h]; exact ih (by omega) (by omega)

/-- The kernel's stored row is the reference's. -/
theorem Agrees.rows (h : Agrees q s n) (k : Fin 100) (e : Fin 6) :
    Cert.KernelIdeal.Nms.row (s.main_v304_2 (ix1 n)) k0_pay31 lanes (planesAt k0_pay31 q k.val) (ix3 0 0 ⟨e.val, by have := e.isLt; omega⟩)
      = (Cert.ReferenceIdeal.Nms.iter s 100).main_v304_6 (ix3 k n e) := by
  rw [iter_rows s n e 100 le_rfl k k.isLt, ← (h.iter k.val).row k.val e, iter_scale]

end Cert.Nms
-- ==== Proof.KInit.lean ====
/- The planes the kernel's loop starts from, read at a lane. -/
module

public import proofs.«01_k».proof.Proof.Couple

@[expose] public section

set_option maxRecDepth 16384

noncomputable section

namespace Cert.KernelIdeal.Nms

open Idealize.ShloMosaic Cert.KernelIdeal Cert.KernelIdeal.Gen Cert.Nms

theorem named_neg : (Named.named (F := Ideal) (φ := .f32) κ "neg" 0xF149F2CA#32 : EReal) = ⊥ := by
  simp [Named.named, κ]

/-- The lanes the kernel counts are those below 5000. -/
theorem valid_apply (r : Fin 40) (c : Fin 128) : k0_pay32 (ix2 r c) = if r.val * 128 + c.val < 5000 then 1#1 else 0#1 := by
  have e : k0_pay32 (ix2 r c) = IntOp.cmpi .slt (laneWord r c) 5000#32 := by
    pointwise [k0_pay32, k0_pay31]
    rfl
  have hl := laneWord_toInt r c
  have hs : (laneWord r c).slt 5000#32 = decide (r.val * 128 + c.val < 5000) := by
    rw [Bool.eq_iff_iff, BitVec.slt_iff_toInt_lt, hl, decide_eq_true_iff]
    have : (5000#32 : BitVec 32).toInt = 5000 := by decide
    omega
  rw [e]
  show BitVec.ofBool _ = _
  rw [hs]
  by_cases h : r.val * 128 + c.val < 5000 <;> simp [h]

variable (b : Fin 10 → Vec Ideal S1x1x40x128 .f32)

/-- The relative box and the anchor a lane was given. -/
def relAt (r : Fin 40) (c : Fin 128) : Fin 4 → EReal := ![b 0 (ix4 0 0 r c), b 1 (ix4 0 0 r c), b 2 (ix4 0 0 r c), b 3 (ix4 0 0 r c)]
def anchorAt (r : Fin 40) (c : Fin 128) : Fin 4 → EReal := ![b 4 (ix4 0 0 r c), b 5 (ix4 0 0 r c), b 6 (ix4 0 0 r c), b 7 (ix4 0 0 r c)]

theorem init_score (r : Fin 40) (c : Fin 128) :
    initPlanes b 0 (ix3 0 r c) = if r.val * 128 + c.val < 5000 then Ideal.logistic (b 8 (ix4 0 0 r c)) else (⊥ : EReal) := by
  pointwise [initPlanes, k0_pay50, k0_pay28, named_neg]
  rw [valid_apply]
  split <;> simp [Scalar.select]

theorem init_class (r : Fin 40) (c : Fin 128) : initPlanes b 1 (ix3 0 r c) = b 9 (ix4 0 0 r c) := by
  pointwise [initPlanes, k0_pay51, k0_pay29]

theorem init_box (r : Fin 40) (c : Fin 128) (i : Fin 4) :
    boxAt (initPlanes b) r c i = if r.val * 128 + c.val < 5000 then corner (relAt b r c) (anchorAt b r c) i else (⊥ : EReal) := by
  fin_cases i
  · show initPlanes b 2 (ix3 0 r c) = _
    pointwise [initPlanes, k0_pay52, k0_pay39, k0_pay38, k0_pay35, k0_pay34, k0_pay21, k0_pay23, k0_pay25, k0_pay27, named_neg]
    rw [valid_apply]
    split <;> rfl
  · show initPlanes b 3 (ix3 0 r c) = _
    pointwise [initPlanes, k0_pay53, k0_pay40, k0_pay37, k0_pay36, k0_pay33, k0_pay20, k0_pay22, k0_pay24, k0_pay26, named_neg]
    rw [valid_apply]
    split <;> rfl
  · show initPlanes b 4 (ix3 0 r c) = _
    pointwise [initPlanes, k0_pay54, k0_pay41, k0_pay38, k0_pay35, k0_pay34, k0_pay21, k0_pay23, k0_pay25, k0_pay27, named_neg]
    rw [valid_apply]
    split <;> rfl
  · show initPlanes b 5 (ix3 0 r c) = _
    pointwise [initPlanes, k0_pay55, k0_pay43, k0_pay42, k0_pay37, k0_pay36, k0_pay33, k0_pay20, k0_pay22, k0_pay24, k0_pay26, named_neg]
    rw [valid_apply]
    split <;> rfl

/-- A plane's greatest entry. -/
def greatest (x : Vec Ideal S1x40x128 .f32) : EReal :=
  (Finset.univ : Finset (Fin 40 × Fin 128)).fold max (Ideal.ofBits FTy.f32 0xFF800000#32) fun y => (x (ix3 0 y.1 y.2) : EReal)

/-- The greatest coordinate of all boxes. -/
def reach : EReal := max (max (greatest (initPlanes b 2)) (greatest (initPlanes b 3))) (max (greatest (initPlanes b 4)) (greatest (initPlanes b 5)))

theorem init_shifted (r : Fin 40) (c : Fin 128) (i : Fin 4) :
    shifted (initPlanes b) r c i = boxAt (initPlanes b) r c i + b 9 (ix4 0 0 r c) * (reach b + 1) := by
  have e2 : ∀ r c, k0_pay39 (k0_pay21 (b 1)) (k0_pay23 (b 3)) (k0_pay25 (b 5)) (k0_pay27 (b 7)) (ix2 r c) = initPlanes b 2 (ix3 0 r c) := by
    intro r c; pointwise [initPlanes, k0_pay52]
  have e3 : ∀ r c, k0_pay40 (k0_pay20 (b 0)) (k0_pay22 (b 2)) (k0_pay24 (b 4)) (k0_pay26 (b 6)) (ix2 r c) = initPlanes b 3 (ix3 0 r c) := by
    intro r c; pointwise [initPlanes, k0_pay53]
  have e4 : ∀ r c, k0_pay41 (k0_pay21 (b 1)) (k0_pay23 (b 3)) (k0_pay25 (b 5)) (k0_pay27 (b 7)) (ix2 r c) = initPlanes b 4 (ix3 0 r c) := by
    intro r c; pointwise [initPlanes, k0_pay54]
  have e5 : ∀ r c, k0_pay43 k0_pay32 (k0_pay42 (k0_pay20 (b 0)) (k0_pay22 (b 2)) (k0_pay24 (b 4)) (k0_pay26 (b 6)))
      (Named.named κ "neg" 0xF149F2CA#32) (ix2 r c) = initPlanes b 5 (ix3 0 r c) := by
    intro r c; pointwise [initPlanes, k0_pay55]
  fin_cases i
  · show initPlanes b 6 (ix3 0 r c) = _
    pointwise [initPlanes, k0_pay56, k0_pay45, k0_pay44, k0_pay29]
    simp only [e2, e3, e4, e5]; rfl
  · show initPlanes b 7 (ix3 0 r c) = _
    pointwise [initPlanes, k0_pay57, k0_pay46, k0_pay44, k0_pay29]
    simp only [e2, e3, e4, e5]; rfl
  · show initPlanes b 8 (ix3 0 r c) = _
    pointwise [initPlanes, k0_pay58, k0_pay47, k0_pay44, k0_pay29]
    simp only [e2, e3, e4, e5]; rfl
  · show initPlanes b 9 (ix3 0 r c) = _
    pointwise [initPlanes, k0_pay59, k0_pay48, k0_pay44, k0_pay29]
    simp only [e2, e3, e4, e5]; rfl

theorem init_area (r : Fin 40) (c : Fin 128) : initPlanes b 10 (ix3 0 r c) = Nms.area (shifted (initPlanes b) r c) := by
  have e6 : ∀ x : FVec Ideal S40x128 .f32, k0_pay56 x (ix3 0 r c) = x (ix2 r c) := by intro x; pointwise [k0_pay56]
  have e7 : ∀ x : FVec Ideal S40x128 .f32, k0_pay57 x (ix3 0 r c) = x (ix2 r c) := by intro x; pointwise [k0_pay57]
  have e8 : ∀ x : FVec Ideal S40x128 .f32, k0_pay58 x (ix3 0 r c) = x (ix2 r c) := by intro x; pointwise [k0_pay58]
  have e9 : ∀ x : FVec Ideal S40x128 .f32, k0_pay59 x (ix3 0 r c) = x (ix2 r c) := by intro x; pointwise [k0_pay59]
  show _ = (initPlanes b 8 (ix3 0 r c) - initPlanes b 6 (ix3 0 r c) : EReal) * (initPlanes b 9 (ix3 0 r c) - initPlanes b 7 (ix3 0 r c))
  simp only [initPlanes, e6, e7, e8, e9]
  pointwise [k0_pay60, k0_pay49]

/-- The greatest coordinate is the least bound of every counted lane's. -/
theorem reach_le_iff (z : EReal) :
    reach b ≤ z ↔ ∀ (l : Fin 5000) (i : Fin 4), corner (relAt b (laneRow l) (laneCol l)) (anchorAt b (laneRow l) (laneCol l)) i ≤ z := by
  have hg : ∀ x : Vec Ideal S1x40x128 .f32, greatest x ≤ z ↔ ∀ r c, (x (ix3 0 r c) : EReal) ≤ z := by
    intro x
    unfold greatest
    rw [Finset.fold_max_le]
    exact ⟨fun h r c => h.2 (r, c) (Finset.mem_univ _), fun h => ⟨by simp [Ideal.ofBits, Ideal.ieee], fun y _ => h _ _⟩⟩
  have hb : reach b ≤ z ↔ ∀ r c (i : Fin 4), boxAt (initPlanes b) r c i ≤ z := by
    unfold reach
    rw [max_le_iff, max_le_iff, max_le_iff, hg, hg, hg, hg]
    constructor
    · rintro ⟨⟨h2, h3⟩, h4, h5⟩ r c i
      fin_cases i
      · exact h2 r c
      · exact h3 r c
      · exact h4 r c
      · exact h5 r c
    · intro h
      exact ⟨⟨fun r c => h r c 0, fun r c => h r c 1⟩, fun r c => h r c 2, fun r c => h r c 3⟩
  rw [hb]
  constructor
  · intro h l i
    have := h (laneRow l) (laneCol l) i
    rwa [init_box, if_pos (by rw [lane_num]; exact l.isLt)] at this
  · intro h r c i
    rw [init_box]
    split
    · next hl =>
      obtain ⟨l, -, rfl, rfl⟩ := lane_of r c hl
      exact h l i
    · exact bot_le

end Cert.KernelIdeal.Nms
-- ==== Proof.KRead.lean ====
/- The stacked planes read at an entry. -/
module

public import proofs.«01_k».proof.Proof.KStack
public import proofs.«01_k».proof.Proof.RInit
public import proofs.«01_k».proof.Proof.KInit

@[expose] public section

set_option maxRecDepth 16384

noncomputable section

namespace Cert.KernelIdeal.Nms

open Idealize.ShloMosaic Cert.KernelIdeal Cert.KernelIdeal.Gen Cert.Nms

/-- A padded plane holds candidate `l`'s value at its lane. -/
theorem padded_apply (x : (⟨S2x5000, .f32⟩ : BufTy).Contents (Elt Ideal)) (n : Fin 2) (l : Fin 5000) :
    padded x (ix4 n 0 (laneRow l) (laneCol l)) = x (ix2 n l) := by
  have hl : l.val / 128 * 128 + l.val % 128 = l.val := by omega
  pointwise [padded, laneRow, laneCol]
  rw [dif_pos (by rw [hl]; exact l.isLt)]
  exact congrArg (fun j => x (ix2 n j)) (Fin.ext hl)

variable (t a : (⟨S2x5000x4, .f32⟩ : BufTy).Contents (Elt Ideal)) (v : (⟨S2x5000, .f32⟩ : BufTy).Contents (Elt Ideal))
    (k : (⟨S2x5000, .i32⟩ : BufTy).Contents (Elt Ideal)) (z : (⟨S2, .f32⟩ : BufTy).Contents (Elt Ideal))

theorem col_apply (n : Fin 2) (l : Fin 5000) (i : Fin 4) : (![col0 t, col1 t, col2 t, col3 t] i : S2x5000.Idx → EReal) (ix2 n l) = t (ix3 n l i) := by
  fin_cases i
  · show col0 t (ix2 n l) = _
    pointwise [col0]
  · show col1 t (ix2 n l) = _
    pointwise [col1]
  · show col2 t (ix2 n l) = _
    pointwise [col2]
  · show col3 t (ix2 n l) = _
    pointwise [col3]

/-- Planes 0 to 9. -/
theorem stacked_plane (n : Fin 2) (i : Fin 10) (r : Fin 40) (c : Fin 128) : stacked t a v k z (ix4 n i.castSucc r c)
    = (![padded (col0 t), padded (col1 t), padded (col2 t), padded (col3 t), padded (col0 a), padded (col1 a), padded (col2 a), padded (col3 a),
        padded v, padded (sitofp (F := Ideal) (s := S2x5000) .f32 k)] i : S2x1x40x128.Idx → EReal) (ix4 n 0 r c) := by
  generalize h0 : padded (col0 t) = x0
  generalize h1 : padded (col1 t) = x1
  generalize h2 : padded (col2 t) = x2
  generalize h3 : padded (col3 t) = x3
  generalize h4 : padded (col0 a) = x4
  generalize h5 : padded (col1 a) = x5
  generalize h6 : padded (col2 a) = x6
  generalize h7 : padded (col3 a) = x7
  generalize h8 : padded v = x8
  generalize h9 : padded (F := Ideal) (sitofp (F := Ideal) (s := S2x5000) .f32 k) = x9
  fin_cases i
  all_goals
    unfold stacked
    rw [h0, h1, h2, h3, h4, h5, h6, h7, h8, h9]
    pointwise []
    try rfl

/-- Plane 10. -/
theorem stacked_scale (n : Fin 2) (r : Fin 40) (c : Fin 128) : stacked t a v k z (ix4 n 10 r c) = z (ix1 n) := by
  pointwise [stacked]

/-- The remainder by twenty of a place. -/
theorem signedRem_apply (i : (⟨S2x5000, .i32⟩ : BufTy).Contents (Elt Ideal)) (n : Fin 2) (l : Fin 5000) (p : Fin 552420)
    (h : i (ix2 n l) = BitVec.ofNat 32 p.val) : signedRem i (ix2 n l) = BitVec.ofNat 32 (p.val % 20) := by
  pointwise [signedRem]
  have h20 : Scalar.select (IntOp.cmpi .eq (20#32 : BitVec 32) 0#32) (1#32 : BitVec 32) 20#32 = 20#32 := by decide
  have hn : IntOp.cmpi .slt (20#32 : BitVec 32) 0#32 = 0#1 := by decide
  have h0 : IntOp.cmpi .slt (BitVec.ofNat 32 (p.val % 20)) 0#32 = 0#1 := by
    have e : (BitVec.ofNat 32 (p.val % 20)).slt 0#32 = false := by
      rw [Bool.eq_false_iff, ne_eq, BitVec.slt_iff_toInt_lt, BitVec.toInt_ofNat']
      simp only [Int.bmod]
      have e0 : (0#32 : BitVec 32).toInt = 0 := by decide
      omega
    simp [IntOp.cmpi, e]
  rw [h20, h, (Cert.ReferenceIdeal.Nms.div_twenty p.isLt).2, hn, h0]
  simp [IntOp.cmpi, IntOp.andi, Scalar.select]

end Cert.KernelIdeal.Nms
end
-- ==== Proof.Start.lean ====
/- The kernel's planes and the reference's state agree when the two loops begin. -/
module

public import proofs.«01_k».proof.Proof.KRead
public import proofs.«01_k».proof.Proof.Couple

@[expose] public section

set_option maxRecDepth 16384

noncomputable section

namespace Cert.Nms

open Idealize.ShloMosaic Cert.ReferenceIdeal Cert.ReferenceIdeal.Gen Cert.ReferenceIdeal.Step
open Cert.KernelIdeal.Nms Cert.ReferenceIdeal.Nms

theorem low_nonpos : low ≤ 0 := by
  have e : low = ((-10000 : ℝ) : EReal) := by
    simp [low, Ideal.ofBits, Ideal.ieee]
    rw [← EReal.coe_mul]
    norm_num
  rw [e]
  exact_mod_cast (by norm_num : (-10000 : ℝ) ≤ 0)

theorem logistic_nonneg (x : EReal) : 0 ≤ Ideal.logistic x := by
  induction x with
  | bot => rw [Ideal.logistic_bot]
  | coe r => rw [Ideal.logistic_coe]; exact_mod_cast (by positivity)
  | top => rw [Ideal.logistic_top]; exact zero_le_one

/-- The class number of a row is one more than the class's. -/
theorem class_succ {q : ℕ} (hq : q < 20) : (FloatOps.sitofp (F := Ideal) .f32 (BitVec.ofNat 32 q) : EReal) + 1
    = FloatOps.sitofp (F := Ideal) .f32 (IntOp.addi (BitVec.ofNat 32 q) 1#32) := by
  have h1 : (BitVec.ofNat 32 q).toInt = q := by
    rw [BitVec.toInt_ofNat']; simp only [Int.bmod]; omega
  have h2 : (IntOp.addi (BitVec.ofNat 32 q) 1#32).toInt = q + 1 := by
    have e : IntOp.addi (BitVec.ofNat 32 q) 1#32 = BitVec.ofNat 32 (q + 1) := by
      simp [IntOp.addi, BitVec.ofNat_add]
    rw [e, BitVec.toInt_ofNat']; simp only [Int.bmod]; omega
  show (((BitVec.ofNat 32 q).toInt : ℝ) : EReal) + 1 = (((IntOp.addi (BitVec.ofNat 32 q) 1#32).toInt : ℝ) : EReal)
  rw [h1, h2]
  push_cast
  rfl

variable (a0 : (⟨S2x1620x48x48, .f32⟩ : BufTy).Contents (Elt Ideal)) (a1 : (⟨S2x1620x24x24, .f32⟩ : BufTy).Contents (Elt Ideal))
  (a2 : (⟨S2x1620x12x12, .f32⟩ : BufTy).Contents (Elt Ideal)) (a3 : (⟨S2x1620x6x6, .f32⟩ : BufTy).Contents (Elt Ideal))
  (a4 : (⟨S2x1620x3x3, .f32⟩ : BufTy).Contents (Elt Ideal)) (a5 : (⟨S2x324x48x48, .f32⟩ : BufTy).Contents (Elt Ideal))
  (a6 : (⟨S2x324x24x24, .f32⟩ : BufTy).Contents (Elt Ideal)) (a7 : (⟨S2x324x12x12, .f32⟩ : BufTy).Contents (Elt Ideal))
  (a8 : (⟨S2x324x6x6, .f32⟩ : BufTy).Contents (Elt Ideal)) (a9 : (⟨S2x324x3x3, .f32⟩ : BufTy).Contents (Elt Ideal))
  (a10 : (⟨S27621x4, .f32⟩ : BufTy).Contents (Elt Ideal))

theorem start (a11 : (⟨S2, .f32⟩ : BufTy).Contents (Elt Ideal)) (x0 : Vec Ideal Cert.KernelIdeal.S1x11x40x128 .f32) (n : Fin 2)
    (v : (⟨S2x5000, .f32⟩ : BufTy).Contents (Elt Ideal))
    (hv : v = (Host.topK S2x5000 1 (FloatOps.cmpfTotal (F := Ideal) (φ := .f32) .gt) (A_main_v212 a0 a1 a2 a3 a4 a5 a6 a7 a8 a9 a10) sliceFits_S2x552420_S2x5000).1)
    (hx : ∀ i r c, x0 (ix4 0 i r c)
      = stacked (F := Ideal) (A_main_v217 a0 a1 a2 a3 a4 a5 a6 a7 a8 a9 a10) (A_main_v228 a0 a1 a2 a3 a4 a5 a6 a7 a8 a9 a10) v (signedRem (F := Ideal) (A_main_indices a0 a1 a2 a3 a4 a5 a6 a7 a8 a9 a10)) a11 (ix4 n i r c)) :
    Agrees (initPlanes (blockPlane x0)) (Step.init a11 a0 a1 a2 a3 a4 a5 a6 a7 a8 a9 a10) n := by
  have hb : ∀ (i : Fin 10) (l : Fin 5000), blockPlane x0 i (ix4 0 0 (laneRow l) (laneCol l)) = _ := fun i l =>
    (hx i.castSucc (laneRow l) (laneCol l)).trans (stacked_plane _ _ _ _ _ n i _ _)
  generalize blockPlane x0 = b at hb
  have hl : ∀ l : Fin 5000, (laneRow l).val * 128 + (laneCol l).val < 5000 := fun l => by
    have := lane_num l; have := l.isLt; omega
  have ht : ∀ l, relAt b (laneRow l) (laneCol l) = fun c => A_main_v217 a0 a1 a2 a3 a4 a5 a6 a7 a8 a9 a10 (ix3 n l c) := fun l => by
    funext c
    have e := col_apply (A_main_v217 a0 a1 a2 a3 a4 a5 a6 a7 a8 a9 a10) n l c
    fin_cases c
    · exact (hb 0 l).trans ((padded_apply _ n l).trans e)
    · exact (hb 1 l).trans ((padded_apply _ n l).trans e)
    · exact (hb 2 l).trans ((padded_apply _ n l).trans e)
    · exact (hb 3 l).trans ((padded_apply _ n l).trans e)
  have ha : ∀ l, anchorAt b (laneRow l) (laneCol l) = fun c => A_main_v228 a0 a1 a2 a3 a4 a5 a6 a7 a8 a9 a10 (ix3 n l c) := fun l => by
    funext c
    have e := col_apply (A_main_v228 a0 a1 a2 a3 a4 a5 a6 a7 a8 a9 a10) n l c
    fin_cases c
    · exact (hb 4 l).trans ((padded_apply _ n l).trans e)
    · exact (hb 5 l).trans ((padded_apply _ n l).trans e)
    · exact (hb 6 l).trans ((padded_apply _ n l).trans e)
    · exact (hb 7 l).trans ((padded_apply _ n l).trans e)
  have h8 : ∀ l, b 8 (ix4 0 0 (laneRow l) (laneCol l)) = A_main_v221 a0 a1 a2 a3 a4 a5 a6 a7 a8 a9 a10 (ix3 n l 0) := fun l => by
    obtain ⟨p, hi, ht⟩ := candidate a0 a1 a2 a3 a4 a5 a6 a7 a8 a9 a10 n l
    rw [v221_apply a0 a1 a2 a3 a4 a5 a6 a7 a8 a9 a10 n l p hi, ← ht, ← hv]
    exact (hb 8 l).trans (padded_apply _ n l)
  have h9 : ∀ l, b 9 (ix4 0 0 (laneRow l) (laneCol l)) = FloatOps.sitofp (F := Ideal) .f32 (A_main_v215 a0 a1 a2 a3 a4 a5 a6 a7 a8 a9 a10 (ix2 n l))
      ∧ ∃ q < 20, A_main_v215 a0 a1 a2 a3 a4 a5 a6 a7 a8 a9 a10 (ix2 n l) = BitVec.ofNat 32 q := fun l => by
    obtain ⟨p, hi, -⟩ := candidate a0 a1 a2 a3 a4 a5 a6 a7 a8 a9 a10 n l
    have h5 := v215_apply a0 a1 a2 a3 a4 a5 a6 a7 a8 a9 a10 n l p hi
    refine ⟨(hb 9 l).trans ((padded_apply _ n l).trans ?_), p.val % 20, by omega, h5⟩
    rw [h5, ← signedRem_apply _ n l p hi]
    rfl
  have hbox : ∀ l c, boxAt (initPlanes b) (laneRow l) (laneCol l) c = A_main_v285 a0 a1 a2 a3 a4 a5 a6 a7 a8 a9 a10 (ix3 n l c) := fun l c => by
    rw [init_box, if_pos (hl l), ht, ha, v285_apply]
  have hreach : reach b = A_main_v293 a0 a1 a2 a3 a4 a5 a6 a7 a8 a9 a10 (ix1 n) := by
    refine eq_of_forall_ge_iff fun z => ?_
    rw [reach_le_iff, v293_le_iff]
    refine forall_congr' fun l => forall_congr' fun c => ?_
    rw [ht, ha, v285_apply]
  constructor
  · intro l
    rw [init_score, if_pos (hl l), h8]
    exact (v292_apply a0 a1 a2 a3 a4 a5 a6 a7 a8 a9 a10 n l).symm
  · intro r c h
    rw [init_score, if_neg (by omega)]
    exact bot_le
  · intro l
    refine (low_nonpos.trans (logistic_nonneg _)).trans_eq (v292_apply a0 a1 a2 a3 a4 a5 a6 a7 a8 a9 a10 n l).symm
  · intro l
    obtain ⟨h, q, hq, e⟩ := h9 l
    have es : (Step.init a11 a0 a1 a2 a3 a4 a5 a6 a7 a8 a9 a10).main_v304_1 = A_main_v215 a0 a1 a2 a3 a4 a5 a6 a7 a8 a9 a10 := by dsimp only [Step.init]
    rw [es, init_class, h]
    generalize A_main_v215 a0 a1 a2 a3 a4 a5 a6 a7 a8 a9 a10 (ix2 n l) = w at e ⊢
    subst e
    have k := class_succ hq
    exact k
  · exact fun l => funext fun c => hbox l c
  · intro l
    funext c
    rw [init_shifted, hbox, (h9 l).1, hreach]
    exact (v302_apply a0 a1 a2 a3 a4 a5 a6 a7 a8 a9 a10 n l c).symm
  · exact fun r c => init_area b r c

end Cert.Nms
-- ==== Proof.KValue.lean ====
/- What the kernel's result array ends holding. -/
module

public import proofs.«01_k».proof.Proof.KStack
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Nms

open Idealize.ShloMosaic Idealize.ShloMosaic.TcCoe Idealize.ShloMosaic.Tactic Idealize.SL.Sem
open Cert.KernelIdeal Cert.KernelIdeal.Gen

variable {F : FTy → Type} [FloatOps F] [Named F]

/-- Image `n` of the stacked planes. -/
def image (S : Vec F S2x11x40x128 .f32) (n : Fin 2) : Vec F S1x11x40x128 .f32 := fun y => S (ix4 n (y 1) (y 2) (y 3))

/-- The rows of both images. -/
def allRows (S : Vec F S2x11x40x128 .f32) : Vec F S2x100x128 .f32 := fun y => nmsOut (image S (y 0)) (ix3 0 (y 1) (y 2))

variable (m : (ℓ : Loc nD τ sig) → Buf (Elt F) ℓ) (ρ : Dev nD → PrngReg)

/-- The blocks of the two windows at a point. -/
theorem blocks (t : Fin cfg0.N) : t.val < 2
    ∧ (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0) := by
  revert t
  decide +kernel

/-- An image's block of the input array. -/
theorem block_image (c : Dev nD) (t : Fin cfg0.N) (n : Fin 2) (hn : n.val = t.val) : iblk m c 0 t = image (V m c main_v274) n := by
  obtain ⟨-, ⟨i0, i1, i2, i3⟩, -⟩ := blocks t
  funext y
  refine congrArg (V m c main_v274) (funext fun a => Fin.ext ?_)
  have y0 : (y 0).val = 0 := by
    have h : (y 0).val < 1 := (y 0).isLt
    omega
  fin_cases a
  · blk_simp [i0, y0]
    exact hn.symm
  · blk_simp [i1]
    rfl
  · blk_simp [i2]
    rfl
  · blk_simp [i3]
    rfl

/-- The call's output array. -/
theorem out_rows (c : Dev nD) : (dats m 0 c).arrAt 1 (cfgs 0).N = allRows (V m c main_v274) := by
  refine (dats m 0 c).arrAt_eq_of_covers 1 _ (by decide +kernel) fun t hf y => ?_
  obtain ⟨-, -, i0, i1, i2⟩ := blocks t
  have h0 : (((win0_1.blk t).view.emb y) 0 : ℕ) = t.val := by
    have y0 : (y 0).val = 0 := by
      have h : (y 0).val < 1 := (y 0).isLt
      omega
    blk_simp [i0, y0]
  have h1 : (((win0_1.blk t).view.emb y) 1 : ℕ) = (y 1).val := by
    blk_simp [i1]
  have h2 : (((win0_1.blk t).view.emb y) 2 : ℕ) = (y 2).val := by
    blk_simp [i2]
  blk_simp
  rw [after0_1, block_image m c t _ h0]
  generalize (win0_1.blk t).view.emb y = z at h1 h2 ⊢
  generalize V m c main_v274 = S
  have e2 : z 2 = y 2 := Fin.ext h2
  show nmsOut (image S (z 0)) y = nmsOut (image S (z 0)) (ix3 0 (z 1) (z 2))
  generalize image S (z 0) = x
  show row _ _ lanes (planesAt _ _ (y 1).val) (ix3 0 0 (y 2)) = row _ _ lanes (planesAt _ _ (z 1).val) (ix3 0 0 (z 2))
  rw [h1, e2]

/-- The kernel's result. -/
theorem run_value : θ_run defs (onTc (τ := τ) (main (F := F))) ⟨m, fun _ => 0, ρ⟩ (fun r => ∀ c : Dev nD,
    r.2.mem ((c.tc : Thread nD τ).loc main_v276) = extractStridedSlice S2x100x6 ![0, 0, 0] (allRows (V m c main_v274)) slices_S2x100x128_S2x100x6_0_0_0) := by
  refine (θ_run defs _ _).mono (fun r h c => ?_) (run_main m ρ)
  have e := (h c).2 main_v276 (Pipeline.mem_restRefs_of main_v276 (by decide) (by decide))
  rw [Pipeline.afterTail₀] at e
  refine e.trans ?_
  have w := Pipeline.withArrays_arr (cfgs 0).spec (by decide) c (V0 m c) (fun w => (dats m 0 c).arrAt w (cfgs 0).N) 1
  rw [← out_rows, ← w]
  generalize Pipeline.withArrays (cfgs 0).spec c (V0 m c) (fun w => (dats m 0 c).arrAt w (cfgs 0).N) = W
  simp only [List.flatten_cons, List.flatten_nil, List.append_nil]
  after_reads_simp

end Cert.KernelIdeal.Nms
end
-- ==== Proof.REntry.lean ====
/-  What the operations before the reference's loop leave in the carried buffers: the first state of the loop, of the arguments.
    The operations are read in three stretches, cut where candidates are laid end to end, so that each reading stays short. -/
module

public import proofs.«01_k».proof.Proof.RStep
public import Idealize.ShloMosaic.Lib.Claim

@[expose] public section

set_option maxRecDepth 65536
set_option maxHeartbeats 4000000

noncomputable section

namespace Cert.ReferenceIdeal.Nms

open Idealize.ShloMosaic Idealize.ShloMosaic.TcCoe Idealize.ShloMosaic.Tactic Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- A function of the first eleven arguments, at the arguments that a valuation holds. -/
abbrev atArgs {α : Type} (f : (⟨S2x1620x48x48, .f32⟩ : BufTy).Contents (Elt F) → (⟨S2x1620x24x24, .f32⟩ : BufTy).Contents (Elt F) → (⟨S2x1620x12x12, .f32⟩ : BufTy).Contents (Elt F) → (⟨S2x1620x6x6, .f32⟩ : BufTy).Contents (Elt F) → (⟨S2x1620x3x3, .f32⟩ : BufTy).Contents (Elt F) → (⟨S2x324x48x48, .f32⟩ : BufTy).Contents (Elt F) → (⟨S2x324x24x24, .f32⟩ : BufTy).Contents (Elt F) → (⟨S2x324x12x12, .f32⟩ : BufTy).Contents (Elt F) → (⟨S2x324x6x6, .f32⟩ : BufTy).Contents (Elt F) → (⟨S2x324x3x3, .f32⟩ : BufTy).Contents (Elt F) → (⟨S27621x4, .f32⟩ : BufTy).Contents (Elt F) → α)
    (V : Valuation τ sig (Elt F)) : α :=
  f (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10))

/-- Laying equal lists end to end gives equal arrays. -/
theorem concatenate_congr {A : EltTy} {s : Shape} {a : Fin s.rank} {xs ys : List (Σ s : Shape, s.Idx → Elt F A)} (h : xs = ys) :
    ∀ hx hy, concatenate s a xs hx = concatenate s a ys hy := by
  subst h; intros; rfl

/-- Operations that leave the twelve arguments as they are. -/
def KeepsArgs (ops : List (HloOp τ sig (Elt F))) : Prop := ∀ V : Valuation τ sig (Elt F),
  (∀ {α : Type} (f), atArgs (α := α) f (after ops V) = atArgs f V)
    ∧ after ops V (Proc.devRef .tc main_arg11) = V (Proc.devRef .tc main_arg11)

/-- The operations up to the two joins, those that rank the scores, those that decode the boxes, and the rest. -/
abbrev opsHeads : List (HloOp τ sig (Elt F)) := hostOps0.take 252
abbrev opsRank : List (HloOp τ sig (Elt F)) := hostOps0.drop 252
abbrev opsBoxes : List (HloOp τ sig (Elt F)) := hostOps0_8.take 72
abbrev opsRest : List (HloOp τ sig (Elt F)) := hostOps0_8.drop 72

theorem keeps_heads : KeepsArgs (F := F) opsHeads := fun V => by
  refine ⟨fun f => ?_, ?_⟩ <;> (simp only [atArgs, List.take]; after_reads_simp)
theorem keeps_rank : KeepsArgs (F := F) opsRank := fun V => by
  refine ⟨fun f => ?_, ?_⟩ <;> (simp only [atArgs, List.drop]; after_reads_simp)
theorem keeps_1 : KeepsArgs (F := F) hostOps0_1 := fun V => by
  refine ⟨fun f => ?_, ?_⟩ <;> (try simp only [atArgs]) <;> after_reads_simp
theorem keeps_2 : KeepsArgs (F := F) hostOps0_2 := fun V => by
  refine ⟨fun f => ?_, ?_⟩ <;> (try simp only [atArgs]) <;> after_reads_simp
theorem keeps_3 : KeepsArgs (F := F) hostOps0_3 := fun V => by
  refine ⟨fun f => ?_, ?_⟩ <;> (try simp only [atArgs]) <;> after_reads_simp
theorem keeps_4 : KeepsArgs (F := F) hostOps0_4 := fun V => by
  refine ⟨fun f => ?_, ?_⟩ <;> (try simp only [atArgs]) <;> after_reads_simp
theorem keeps_5 : KeepsArgs (F := F) hostOps0_5 := fun V => by
  refine ⟨fun f => ?_, ?_⟩ <;> (try simp only [atArgs]) <;> after_reads_simp
theorem keeps_6 : KeepsArgs (F := F) hostOps0_6 := fun V => by
  refine ⟨fun f => ?_, ?_⟩ <;> (try simp only [atArgs]) <;> after_reads_simp
theorem keeps_7 : KeepsArgs (F := F) hostOps0_7 := fun V => by
  refine ⟨fun f => ?_, ?_⟩ <;> (try simp only [atArgs]) <;> after_reads_simp
theorem keeps_boxes : KeepsArgs (F := F) opsBoxes := fun V => by
  refine ⟨fun f => ?_, ?_⟩ <;> (simp only [atArgs, List.take]; after_reads_simp)

variable (V : Valuation τ sig (Elt F))

/-- The class scores of every place and the boxes of every place. -/
theorem after_heads :
    after opsHeads V (Proc.devRef .tc main_v105) = atArgs Step.A_main_v105 V
      ∧ after opsHeads V (Proc.devRef .tc main_v211) = atArgs Step.A_main_v211 V := by
  refine ⟨?_, ?_⟩ <;>
  · simp only [List.take]
    after_reads_simp
    refine concatenate_congr ?_ _ _
    dsimp only [Matrix.cons_val]
    after_reads_simp
    rfl

/-- The places of the greatest scores, in order. -/
theorem after_rank (h105 : V (Proc.devRef .tc main_v105) = atArgs Step.A_main_v105 V) :
    after opsRank V (Proc.devRef .tc main_indices) = atArgs Step.A_main_indices V
      ∧ after opsRank V (Proc.devRef .tc main_c) = constantI S_ 32 20#32
      ∧ after opsRank V (Proc.devRef .tc main_v105) = V (Proc.devRef .tc main_v105)
      ∧ after opsRank V (Proc.devRef .tc main_v211) = V (Proc.devRef .tc main_v211) := by
  refine ⟨?_, ?_, ?_, ?_⟩ <;> (simp only [List.drop]; after_reads_simp)
  simp only [h105]
  rfl

/-- The candidates' numbers: the quotients. -/
theorem after_quotient (hi : V (Proc.devRef .tc main_indices) = atArgs Step.A_main_indices V)
    (hc : V (Proc.devRef .tc main_c) = constantI S_ 32 20#32) :
    after hostOps0_1 V (Proc.devRef .tc main_v213) = atArgs Step.A_main_v213 V
      ∧ after hostOps0_1 V (Proc.devRef .tc main_indices) = V (Proc.devRef .tc main_indices)
      ∧ after hostOps0_1 V (Proc.devRef .tc main_v105) = V (Proc.devRef .tc main_v105)
      ∧ after hostOps0_1 V (Proc.devRef .tc main_v211) = V (Proc.devRef .tc main_v211) := by
  refine ⟨?_, ?_, ?_, ?_⟩ <;> after_reads_simp
  simp only [TRef.toBuf, TRef.ofBuf, cast_eq, id, hi, hc]
  rfl

/-- The candidates' classes: the remainders. -/
theorem after_remainder (hi : V (Proc.devRef .tc main_indices) = atArgs Step.A_main_indices V)
    (hq : V (Proc.devRef .tc main_v213) = atArgs Step.A_main_v213 V) :
    after hostOps0_2 V (Proc.devRef .tc main_v215) = atArgs Step.A_main_v215 V
      ∧ after hostOps0_2 V (Proc.devRef .tc main_v216) = atArgs Step.A_main_v216 V
      ∧ after hostOps0_2 V (Proc.devRef .tc main_v213) = V (Proc.devRef .tc main_v213)
      ∧ after hostOps0_2 V (Proc.devRef .tc main_v105) = V (Proc.devRef .tc main_v105)
      ∧ after hostOps0_2 V (Proc.devRef .tc main_v211) = V (Proc.devRef .tc main_v211) := by
  refine ⟨?_, ?_, ?_, ?_, ?_⟩ <;> after_reads_simp
  · simp only [hi]; rfl
  · simp only [hq]; rfl

/-- The candidates' relative boxes. -/
theorem after_boxes (h : V (Proc.devRef .tc main_v216) = atArgs Step.A_main_v216 V)
    (h211 : V (Proc.devRef .tc main_v211) = atArgs Step.A_main_v211 V) :
    after hostOps0_3 V (Proc.devRef .tc main_v217) = atArgs Step.A_main_v217 V
      ∧ after hostOps0_3 V (Proc.devRef .tc main_v215) = V (Proc.devRef .tc main_v215)
      ∧ after hostOps0_3 V (Proc.devRef .tc main_v213) = V (Proc.devRef .tc main_v213)
      ∧ after hostOps0_3 V (Proc.devRef .tc main_v105) = V (Proc.devRef .tc main_v105) := by
  refine ⟨?_, ?_, ?_, ?_⟩ <;> after_reads_simp
  simp only [TRef.toBuf, TRef.ofBuf, cast_eq, id, h, h211]
  rfl

/-- The candidates' scores in every class. -/
theorem after_scores (hq : V (Proc.devRef .tc main_v213) = atArgs Step.A_main_v213 V)
    (h105 : V (Proc.devRef .tc main_v105) = atArgs Step.A_main_v105 V) :
    after hostOps0_5 (after hostOps0_4 V) (Proc.devRef .tc main_v219) = atArgs Step.A_main_v219 V
      ∧ after hostOps0_5 (after hostOps0_4 V) (Proc.devRef .tc main_v215) = V (Proc.devRef .tc main_v215)
      ∧ after hostOps0_5 (after hostOps0_4 V) (Proc.devRef .tc main_v213) = V (Proc.devRef .tc main_v213)
      ∧ after hostOps0_5 (after hostOps0_4 V) (Proc.devRef .tc main_v217) = V (Proc.devRef .tc main_v217) := by
  refine ⟨?_, ?_, ?_, ?_⟩ <;> after_reads_simp
  simp only [TRef.toBuf, TRef.ofBuf, cast_eq, id, hq, h105]
  rfl

/-- The candidates' own scores. -/
theorem after_score (h : V (Proc.devRef .tc main_v219) = atArgs Step.A_main_v219 V)
    (hr : V (Proc.devRef .tc main_v215) = atArgs Step.A_main_v215 V) :
    after hostOps0_7 (after hostOps0_6 V) (Proc.devRef .tc main_v221) = atArgs Step.A_main_v221 V
      ∧ after hostOps0_7 (after hostOps0_6 V) (Proc.devRef .tc main_v215) = V (Proc.devRef .tc main_v215)
      ∧ after hostOps0_7 (after hostOps0_6 V) (Proc.devRef .tc main_v213) = V (Proc.devRef .tc main_v213)
      ∧ after hostOps0_7 (after hostOps0_6 V) (Proc.devRef .tc main_v217) = V (Proc.devRef .tc main_v217) := by
  refine ⟨?_, ?_, ?_, ?_⟩ <;> after_reads_simp
  simp only [TRef.toBuf, TRef.ofBuf, cast_eq, id, h, hr]
  rfl

/-- The candidates' boxes. -/
theorem after_decode (hq : V (Proc.devRef .tc main_v213) = atArgs Step.A_main_v213 V)
    (hb : V (Proc.devRef .tc main_v217) = atArgs Step.A_main_v217 V) :
    after opsBoxes V (Proc.devRef .tc main_v285) = atArgs Step.A_main_v285 V
      ∧ after opsBoxes V (Proc.devRef .tc main_v215) = V (Proc.devRef .tc main_v215)
      ∧ after opsBoxes V (Proc.devRef .tc main_v221) = V (Proc.devRef .tc main_v221) := by
  refine ⟨?_, ?_, ?_⟩ <;> (simp only [List.take]; after_reads_simp)
  refine concatenate_congr ?_ _ _
  dsimp only [Matrix.cons_val]
  after_reads_simp
  simp only [hq, hb]
  rfl

/-- The loop's first state. -/
theorem after_rest (h285 : V (Proc.devRef .tc main_v285) = atArgs Step.A_main_v285 V)
    (h215 : V (Proc.devRef .tc main_v215) = atArgs Step.A_main_v215 V)
    (h221 : V (Proc.devRef .tc main_v221) = atArgs Step.A_main_v221 V) :
    carried (after opsRest V) = atArgs (init (V (Proc.devRef .tc main_arg11))) V
      ∧ after opsRest V (Proc.devRef .tc main_v304_4) = constantI S_ 32 0#32 := by
  refine ⟨?_, by simp only [List.drop]; after_reads_simp; rfl⟩
  unfold init
  simp only [List.drop, carried, State.mk.injEq]
  refine ⟨?_, ?_, ?_, ?_, ?_, ?_⟩ <;> after_reads_simp
  · simp only [h221]; rfl
  · rfl
  · simp only [h285]; rfl
  · exact h215
  · rfl
  · simp only [h285, h215]; rfl

end Cert.ReferenceIdeal.Nms
end
-- ==== Proof.RRun.lean ====
/-  The reference's run: its result is read off the state after a hundred trips from the state its own operations before the loop leave. -/
module

public import proofs.«01_k».proof.Proof.REntry

@[expose] public section

set_option maxRecDepth 65536
set_option maxHeartbeats 4000000

noncomputable section

namespace Cert.ReferenceIdeal.Nms

open Idealize.ShloMosaic Idealize.ShloMosaic.TcCoe Idealize.ShloMosaic.Tactic Idealize.SL.Sem Idealize.ShloMosaic.StableHlo
open Cert.ReferenceIdeal Cert.ReferenceIdeal.Gen Cert.ReferenceIdeal.Value
open Cert.ReferenceIdeal.Step (State step init)

variable {F : FTy → Type} [FloatOps F]
variable (V : Valuation τ sig (Elt F))

/-- Two contents that agree on the twelve arguments. -/
def Same (W V : Valuation τ sig (Elt F)) : Prop :=
  (∀ {α : Type} (f), atArgs (α := α) f W = atArgs f V) ∧ W (Proc.devRef .tc main_arg11) = V (Proc.devRef .tc main_arg11)

theorem Same.step {W V : Valuation τ sig (Elt F)} (h : Same W V) {ops : List (HloOp τ sig (Elt F))} (k : KeepsArgs ops) : Same (after ops W) V :=
  ⟨fun f => ((k W).1 f).trans (h.1 f), (k W).2.trans h.2⟩

/-- All the operations before the loop, stretch by stretch. -/
theorem afterL_pre : afterL preI V = after opsRest (after opsBoxes (after hostOps0_7 (after hostOps0_6 (after hostOps0_5 (after hostOps0_4
    (after hostOps0_3 (after hostOps0_2 (after hostOps0_1 (after opsRank (after opsHeads V)))))))))) := by
  have e0 : ∀ W : Valuation τ sig (Elt F), after hostOps0 W = after opsRank (after opsHeads W) := fun W =>
    (congrArg (fun l => after l W) (List.take_append_drop 252 hostOps0).symm).trans (after_append _ _ _)
  have e8 : ∀ W : Valuation τ sig (Elt F), after hostOps0_8 W = after opsRest (after opsBoxes W) := fun W =>
    (congrArg (fun l => after l W) (List.take_append_drop 72 hostOps0_8).symm).trans (after_append _ _ _)
  exact (e8 _).trans (congrArg (fun W => after opsRest (after opsBoxes (after hostOps0_7 (after hostOps0_6 (after hostOps0_5 (after hostOps0_4
    (after hostOps0_3 (after hostOps0_2 (after hostOps0_1 W))))))))) (e0 V))

/-- What the operations before the loop leave, from any contents. -/
theorem after_pre : carried (afterL preI V) = atArgs (init (V (Proc.devRef .tc main_arg11))) V
    ∧ afterL preI V (Proc.devRef .tc main_v304_4) = constantI S_ 32 0#32 := by
  rw [afterL_pre]
  have s1 : Same (after opsHeads V) V := keeps_heads V
  have a := after_heads V
  have s2 := s1.step keeps_rank
  obtain ⟨b1, b2, b3, b4⟩ := after_rank (after opsHeads V) (a.1.trans (s1.1 Step.A_main_v105).symm)
  replace b1 := b1.trans (s1.1 Step.A_main_indices)
  replace b3 := b3.trans a.1
  replace b4 := b4.trans a.2
  have s3 := s2.step keeps_1
  obtain ⟨c1, c2, c3, c4⟩ := after_quotient _ (b1.trans (s2.1 Step.A_main_indices).symm) b2
  replace c1 := c1.trans (s2.1 Step.A_main_v213)
  replace c2 := c2.trans b1
  replace c3 := c3.trans b3
  replace c4 := c4.trans b4
  have s4 := s3.step keeps_2
  obtain ⟨d1, d2, d3, d4, d5⟩ := after_remainder _ (c2.trans (s3.1 Step.A_main_indices).symm) (c1.trans (s3.1 Step.A_main_v213).symm)
  replace d1 := d1.trans (s3.1 Step.A_main_v215)
  replace d2 := d2.trans (s3.1 Step.A_main_v216)
  replace d3 := d3.trans c1
  replace d4 := d4.trans c3
  replace d5 := d5.trans c4
  have s5 := s4.step keeps_3
  obtain ⟨e1, e2, e3, e4⟩ := after_boxes _ (d2.trans (s4.1 Step.A_main_v216).symm) (d5.trans (s4.1 Step.A_main_v211).symm)
  replace e1 := e1.trans (s4.1 Step.A_main_v217)
  replace e2 := e2.trans d1
  replace e3 := e3.trans d3
  replace e4 := e4.trans d4
  have s6 := (s5.step keeps_4).step keeps_5
  obtain ⟨f1, f2, f3, f4⟩ := after_scores _ (e3.trans (s5.1 Step.A_main_v213).symm) (e4.trans (s5.1 Step.A_main_v105).symm)
  replace f1 := f1.trans (s5.1 Step.A_main_v219)
  replace f2 := f2.trans e2
  replace f3 := f3.trans e3
  replace f4 := f4.trans e1
  have s7 := (s6.step keeps_6).step keeps_7
  obtain ⟨g1, g2, g3, g4⟩ := after_score _ (f1.trans (s6.1 Step.A_main_v219).symm) (f2.trans (s6.1 Step.A_main_v215).symm)
  replace g1 := g1.trans (s6.1 Step.A_main_v221)
  replace g2 := g2.trans f2
  replace g3 := g3.trans f3
  replace g4 := g4.trans f4
  have s8 := s7.step keeps_boxes
  obtain ⟨h1, h2, h3⟩ := after_decode _ (g3.trans (s7.1 Step.A_main_v213).symm) (g4.trans (s7.1 Step.A_main_v217).symm)
  replace h1 := h1.trans (s7.1 Step.A_main_v285)
  replace h2 := h2.trans g2
  replace h3 := h3.trans g1
  obtain ⟨i1, i2⟩ := after_rest _ (h1.trans (s8.1 Step.A_main_v285).symm) (h2.trans (s8.1 Step.A_main_v215).symm)
    (h3.trans (s8.1 Step.A_main_v221).symm)
  refine ⟨i1.trans ?_, i2⟩
  rw [s8.2]
  exact s8.1 _

variable (m : (ℓ : Loc nD τ sig) → Buf (Elt F) ℓ) (c : Dev nD)

/-- The state the first trip starts from, of the arguments. -/
abbrev initState : State F :=
  atArgs (init (m ((c.tc : Thread nD τ).loc main_arg11))) (launchContents m c)

theorem out_carried (W : Valuation τ sig (Elt F)) : out_main_v305 W = Step.R_main_v305 (carried W) := rfl

theorem out_iter (k : ℕ) : out_main_v305 (STEP^[k] (entryContents preI m c)) = Step.R_main_v305 (iter (initState m c) k) := by
  obtain ⟨e, n⟩ := after_pre (launchContents m c)
  rw [out_carried, (carried_iter _ n k).2, e]

/-- The reference's run: the result is the transposed rows of the state after a hundred steps. -/
theorem run (ρ : Dev nD → PrngReg) : θ_run (defs (F := F)) (onTc (τ := τ) (main (F := F))) ⟨m, fun _ => 0, ρ⟩ fun r => ∀ c : Dev nD,
      r.2.mem ((c.tc : Thread nD τ).loc main_v305) = Step.R_main_v305 (iter (initState m c) 100) :=
  (θ_run defs _ _).mono (fun _ h c => (h c).1.trans (out_iter m c 100)) (Value.run m ρ)

end Cert.ReferenceIdeal.Nms
end
-- ==== Proof.Tie.lean ====
/- The kernel's result is the reference's. -/
module

public import proofs.«01_k».proof.Defs
public import proofs.«01_k».proof.Proof.Start
public import proofs.«01_k».proof.Proof.KValue
public import proofs.«01_k».proof.Proof.RRun

@[expose] public section

set_option maxRecDepth 16384

noncomputable section

namespace Cert.Nms

open Idealize.ShloMosaic Idealize.ShloMosaic.TcCoe Idealize.SL.Sem
open Cert.KernelIdeal.Nms Cert.ReferenceIdeal.Nms Cert.ReferenceIdeal.Step

section
open Cert.ReferenceIdeal Cert.ReferenceIdeal.Gen
variable (a0 : (⟨S2x1620x48x48, .f32⟩ : BufTy).Contents (Elt Ideal)) (a1 : (⟨S2x1620x24x24, .f32⟩ : BufTy).Contents (Elt Ideal))
  (a2 : (⟨S2x1620x12x12, .f32⟩ : BufTy).Contents (Elt Ideal)) (a3 : (⟨S2x1620x6x6, .f32⟩ : BufTy).Contents (Elt Ideal))
  (a4 : (⟨S2x1620x3x3, .f32⟩ : BufTy).Contents (Elt Ideal)) (a5 : (⟨S2x324x48x48, .f32⟩ : BufTy).Contents (Elt Ideal))
  (a6 : (⟨S2x324x24x24, .f32⟩ : BufTy).Contents (Elt Ideal)) (a7 : (⟨S2x324x12x12, .f32⟩ : BufTy).Contents (Elt Ideal))
  (a8 : (⟨S2x324x6x6, .f32⟩ : BufTy).Contents (Elt Ideal)) (a9 : (⟨S2x324x3x3, .f32⟩ : BufTy).Contents (Elt Ideal))
  (a10 : (⟨S27621x4, .f32⟩ : BufTy).Contents (Elt Ideal))

theorem tie (a11 : (⟨S2, .f32⟩ : BufTy).Contents (Elt Ideal)) (S : Vec Ideal Cert.KernelIdeal.S2x11x40x128 .f32)
    (hS : S = stacked (F := Ideal) (A_main_v217 a0 a1 a2 a3 a4 a5 a6 a7 a8 a9 a10) (A_main_v228 a0 a1 a2 a3 a4 a5 a6 a7 a8 a9 a10)
      (Host.topK S2x5000 1 (FloatOps.cmpfTotal (F := Ideal) (φ := .f32) .gt) (A_main_v212 a0 a1 a2 a3 a4 a5 a6 a7 a8 a9 a10) sliceFits_S2x552420_S2x5000).1
      (signedRem (F := Ideal) (A_main_indices a0 a1 a2 a3 a4 a5 a6 a7 a8 a9 a10)) a11) :
    R_main_v305 (iter (Step.init a11 a0 a1 a2 a3 a4 a5 a6 a7 a8 a9 a10) 100)
      = extractStridedSlice Cert.KernelIdeal.S2x100x6 ![0, 0, 0] (allRows S) Cert.KernelIdeal.Gen.slices_S2x100x128_S2x100x6_0_0_0 := by
  funext y
  obtain ⟨n, k, e, rfl⟩ : ∃ (n : Fin 2) (k : Fin 100) (e : Fin 6), y = ix3 n k e := ⟨y 0, y 1, y 2, funext fun a => by fin_cases a <;> rfl⟩
  have h := (start a0 a1 a2 a3 a4 a5 a6 a7 a8 a9 a10 a11 (image S n) n _ rfl fun i r c => by rw [← hS]; rfl).rows k e
  have hr : ∀ s : State Ideal, R_main_v305 s (ix3 n k e) = s.main_v304_6 (ix3 k n e) := fun s => by
    pointwise [R_main_v305]
  rw [hr, ← h]
  have hz : (Step.init a11 a0 a1 a2 a3 a4 a5 a6 a7 a8 a9 a10).main_v304_2 (ix1 n) = image S n (ix4 0 10 0 0) := by
    have e0 : (Step.init a11 a0 a1 a2 a3 a4 a5 a6 a7 a8 a9 a10).main_v304_2 = a11 := by dsimp only [Step.init]
    rw [e0, ← stacked_scale _ _ _ _ a11 n 0 0, ← hS]
    rfl
  have hk : ∀ x : Vec Ideal Cert.KernelIdeal.S2x100x128 .f32, extractStridedSlice Cert.KernelIdeal.S2x100x6 ![0, 0, 0] x Cert.KernelIdeal.Gen.slices_S2x100x128_S2x100x6_0_0_0 (ix3 n k e)
      = x (ix3 n k ⟨e.val, by have := e.isLt; omega⟩) := fun x => by
    pointwise []
  rw [hk, hz]
  rfl

end

open Cert.KernelIdeal.Gen in
/-- The kernel and the reference compute one result. -/
theorem algebraic : Cert.algebraic_KernelIdeal_ReferenceIdeal := by
  intro m g m' g' _ hagree
  refine ⟨fun c => extractStridedSlice Cert.KernelIdeal.S2x100x6 ![0, 0, 0] (allRows (V m c Cert.KernelIdeal.main_v274))
    slices_S2x100x128_S2x100x6_0_0_0, ?_, ?_⟩
  · exact (θ_run Cert.KernelIdeal.defs _ _).mono (fun r h c => ⟨h.1 c, h.2 c⟩) (θ_run_and (run_value m g) (unchanged m g))
  · refine (θ_run Cert.ReferenceIdeal.defs _ _).mono (fun r h c => ⟨(h.1 c).trans ?_, (h.2 c).2⟩)
      (θ_run_and (Cert.ReferenceIdeal.Nms.run m' g') (Cert.ReferenceIdeal.Value.run (F := Ideal) m' g'))
    obtain ⟨e0, e1, e2, e3, e4, e5, e6, e7, e8, e9, e10, e11⟩ := hagree c
    have hS := entry_planes m c _ rfl
    have t := tie _ _ _ _ _ _ _ _ _ _ _ _ (V m c Cert.KernelIdeal.main_v274) hS
    refine Eq.trans ?_ t
    show R_main_v305 (iter (Cert.ReferenceIdeal.Step.init (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))) 100) = _
    rw [e0, e1, e2, e3, e4, e5, e6, e7, e8, e9, e10, e11]

end Cert.Nms

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.KFrame
public import proofs.«01_k».proof.Proof.PFrame
public import proofs.«01_k».proof.Proof.Tie
public import proofs.«01_k».proof.Proof.Gen.ReferenceIdeal
public import proofs.«01_k».proof.Proof.Gen.ReferenceIdeal.Run
public import proofs.«01_k».proof.Proof.Gen.ReferenceIdeal.Step
public import Idealize.ShloMosaic.Adequacy
public import Idealize.ShloMosaic.Init

@[expose] public section

noncomputable section

namespace Cert.Proof

open Idealize.ShloMosaic Idealize.ShloMosaic.TcCoe Idealize.SL.Sem

/-- The reference's frame: its arguments end unchanged, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's filling number is named, and the name's value is the bottom of the extended reals. -/
theorem pad_named : Cert.preserves_Kernel_KernelIdeal :=
  IdealRules.named_const.statement Cert.KernelIdeal.κ "neg" .f32 0xF149F2CA#32 ⊥ rfl

theorem claim : Cert.Claim := ⟨Cert.Kernel.Gen.facts, Cert.KernelIdeal.Gen.facts, Cert.ReferenceIdeal.Gen.facts,
  Cert.Kernel.Nms.frame, fun m ρ _ => Cert.KernelIdeal.Nms.frame m ρ, frame_reference, pad_named, Cert.Nms.algebraic⟩

end Cert.Proof

end
